-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_nonneg [hPre_labels_nonneg : Cert.Pre_labels_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_labels_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_nonneg [hPre_labels_nonneg : Cert.Pre_labels_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_labels_nonneg [hKernelIdeal : Cert.KernelIdeal.Facts] [hPre_labels_nonneg : Cert.Pre_labels_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_labels_nonneg [hReferenceIdeal : Cert.ReferenceIdeal.Facts] [hPre_labels_nonneg : Cert.Pre_labels_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_labels_nonneg [hKernelIdeal : Cert.KernelIdeal.Facts] [hReferenceIdeal : Cert.ReferenceIdeal.Facts] [hPre_labels_nonneg : Cert.Pre_labels_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_labels_nonneg : Cert.Pre_labels_nonneg.Facts),
    quiescent_Kernel (hKernel := hKernel)
    ∧ quiescent_KernelIdeal (hKernelIdeal := hKernelIdeal)
    ∧ quiescent_KernelIdeal_pre_labels_nonneg (hKernelIdeal := hKernelIdeal) (hPre_labels_nonneg := hPre_labels_nonneg)
    ∧ quiescent_ReferenceIdeal (hReferenceIdeal := hReferenceIdeal)
    ∧ quiescent_ReferenceIdeal_pre_labels_nonneg (hReferenceIdeal := hReferenceIdeal) (hPre_labels_nonneg := hPre_labels_nonneg)
    ∧ preserves_Kernel_KernelIdeal
    ∧ algebraic_KernelIdeal_ReferenceIdeal_pre_labels_nonneg (hKernelIdeal := hKernelIdeal) (hReferenceIdeal := hReferenceIdeal) (hPre_labels_nonneg := hPre_labels_nonneg)
-- ==== Pre_labels_nonneg.lean ====
abbrev S8x1x512x512 : Shape := ⟨4, ![8, 1, 512, 512]⟩
abbrev S_ : Shape := ⟨0, ![]⟩

class Facts : Prop where
  bcast_S_S8x1x512x512 : S_.BroadcastsInDim S8x1x512x512 (![] : Fin 0 → Fin S8x1x512x512.rank)
  reducesTo_S8x1x512x512_S_d0_1_2_3 : S8x1x512x512.ReducesTo [0, 1, 2, 3] S_
  h_S_ : 0 < S_.numel

variable [Facts]

def fn {F : FTy → Type} [FloatOps F] (main_arg0 : FVec F S8x1x512x512 .f32) (main_arg1 : FVec F S8x1x512x512 .f32) (main_arg2 : FVec F S8x1x512x512 .f32) : IVec S_ 1 :=
  let main_cst : FVec F S_ .f32 := constant S_ .f32 0x00000000#32
  let main_v0 : FVec F S8x1x512x512 .f32 := broadcastInDim S8x1x512x512 ![] bcast_S_S8x1x512x512 main_cst
  let main_v1 : IVec S8x1x512x512 1 := cmpf .oge main_arg1 main_v0
  let main_c : IVec S_ 1 := constantI S_ 1 1#1
  let main_v2 : IVec S_ 1 := (fun x v => Host.reduce IntOp.andi x v reducesTo_S8x1x512x512_S_d0_1_2_3 h_S_) main_v1 main_c
  main_v2
-- ==== Kernel.lean ====
abbrev S8x1x512x512 : Shape := ⟨4, ![8, 1, 512, 512]⟩
abbrev S8x1x128 : Shape := ⟨3, ![8, 1, 128]⟩
abbrev S1x1x512x512 : Shape := ⟨4, ![1, 1, 512, 512]⟩
abbrev S1x1x128 : Shape := ⟨3, ![1, 1, 128]⟩
abbrev S512x512 : Shape := ⟨2, ![512, 512]⟩
abbrev S512x2 : Shape := ⟨2, ![512, 2]⟩
abbrev S512x510 : Shape := ⟨2, ![512, 510]⟩
abbrev S512x1 : Shape := ⟨2, ![512, 1]⟩
abbrev S512x511 : Shape := ⟨2, ![512, 511]⟩
abbrev S2x512 : Shape := ⟨2, ![2, 512]⟩
abbrev S510x512 : Shape := ⟨2, ![510, 512]⟩
abbrev S1x512 : Shape := ⟨2, ![1, 512]⟩
abbrev S511x512 : Shape := ⟨2, ![511, 512]⟩
abbrev S1x262144 : Shape := ⟨2, ![1, 262144]⟩
abbrev S16x262144 : Shape := ⟨2, ![16, 262144]⟩
abbrev S16x16 : Shape := ⟨2, ![16, 16]⟩
abbrev S1x16 : Shape := ⟨2, ![1, 16]⟩
abbrev S1x256 : Shape := ⟨2, ![1, 256]⟩
abbrev S1x1x256 : Shape := ⟨3, ![1, 1, 256]⟩
abbrev S1 : Shape := ⟨1, ![1]⟩
abbrev S1x1x1 : Shape := ⟨3, ![1, 1, 1]⟩
abbrev S1x1 : Shape := ⟨2, ![1, 1]⟩
abbrev S1x255 : Shape := ⟨2, ![1, 255]⟩
abbrev S1x2 : Shape := ⟨2, ![1, 2]⟩
abbrev S1x254 : Shape := ⟨2, ![1, 254]⟩
abbrev S1x4 : Shape := ⟨2, ![1, 4]⟩
abbrev S1x252 : Shape := ⟨2, ![1, 252]⟩
abbrev S1x8 : Shape := ⟨2, ![1, 8]⟩
abbrev S1x248 : Shape := ⟨2, ![1, 248]⟩
abbrev S1x240 : Shape := ⟨2, ![1, 240]⟩
abbrev S1x32 : Shape := ⟨2, ![1, 32]⟩
abbrev S1x224 : Shape := ⟨2, ![1, 224]⟩
abbrev S1x64 : Shape := ⟨2, ![1, 64]⟩
abbrev S1x192 : Shape := ⟨2, ![1, 192]⟩
abbrev S1x128 : Shape := ⟨2, ![1, 128]⟩
abbrev S256x256 : Shape := ⟨2, ![256, 256]⟩
abbrev S1x256x256 : Shape := ⟨3, ![1, 256, 256]⟩
abbrev S1x512x512 : Shape := ⟨3, ![1, 512, 512]⟩
abbrev S128 : Shape := ⟨1, ![128]⟩
abbrev S8x1x1 : Shape := ⟨3, ![8, 1, 1]⟩
abbrev S8 : Shape := ⟨1, ![8]⟩
abbrev S_ : Shape := ⟨0, ![]⟩

abbrev nBuf : Space → Nat
  | .hbm => 28
  | .vmem => 10
  | .smem => 0
  | _ => 0

abbrev bufTy : (tb : Table) → Fin (tcTables nBuf tb) → BufTy
  | .hbm, ⟨0, _⟩ => ⟨S8x1x512x512, .f32⟩
  | .hbm, ⟨1, _⟩ => ⟨S8x1x512x512, .f32⟩
  | .hbm, ⟨2, _⟩ => ⟨S8x1x512x512, .f32⟩
  | .hbm, ⟨3, _⟩ => ⟨S8x1x128, .f32⟩
  | .hbm, ⟨4, _⟩ => ⟨S8x1x128, .f32⟩
  | .hbm, ⟨5, _⟩ => ⟨S8x1x1, .f32⟩
  | .hbm, ⟨6, _⟩ => ⟨S8, .f32⟩
  | .hbm, ⟨7, _⟩ => ⟨S8x1x1, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .i1⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S1x1x512x512, .f32⟩
  | .local _ .vmem, ⟨1, _⟩ => ⟨S1x1x512x512, .f32⟩
  | .local _ .vmem, ⟨2, _⟩ => ⟨S1x1x512x512, .f32⟩
  | .local _ .vmem, ⟨3, _⟩ => ⟨S1x1x512x512, .f32⟩
  | .local _ .vmem, ⟨4, _⟩ => ⟨S1x1x512x512, .f32⟩
  | .local _ .vmem, ⟨5, _⟩ => ⟨S1x1x512x512, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | _, _ => ⟨S8x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8x1x512x512 : Shape := ⟨4, ![8, 1, 512, 512]⟩
abbrev S_ : Shape := ⟨0, ![]⟩
abbrev S8x1x516x516 : Shape := ⟨4, ![8, 1, 516, 516]⟩
abbrev S8x512x512 : Shape := ⟨3, ![8, 512, 512]⟩
abbrev S8 : Shape := ⟨1, ![8]⟩
abbrev S8x1x1 : Shape := ⟨3, ![8, 1, 1]⟩
abbrev S8x256 : Shape := ⟨2, ![8, 256]⟩
abbrev S8x512x512x1 : Shape := ⟨4, ![8, 512, 512, 1]⟩
abbrev S8x512x512x2 : Shape := ⟨4, ![8, 512, 512, 2]⟩
abbrev S8x1 : Shape := ⟨2, ![8, 1]⟩
abbrev S256 : Shape := ⟨1, ![256]⟩
abbrev S1x256 : Shape := ⟨2, ![1, 256]⟩
abbrev S8x254 : Shape := ⟨2, ![8, 254]⟩
abbrev S8x254x1 : Shape := ⟨3, ![8, 254, 1]⟩
abbrev S8x1x254 : Shape := ⟨3, ![8, 1, 254]⟩
abbrev S8x254x254 : Shape := ⟨3, ![8, 254, 254]⟩
abbrev S254x254 : Shape := ⟨2, ![254, 254]⟩
abbrev S8x64516 : Shape := ⟨2, ![8, 64516]⟩
abbrev S8x1x1x1 : Shape := ⟨4, ![8, 1, 1, 1]⟩

abbrev nBuf : Space → Nat
  | .hbm => 259
  | .vmem => 0
  | .smem => 0
  | _ => 0

abbrev hbmTy0_0 (i : Nat) : BufTy := match i % 128 with
  | 0 => ⟨S8x1x512x512, .f32⟩
  | 1 => ⟨S8x1x512x512, .f32⟩
  | 2 => ⟨S8x1x512x512, .f32⟩
  | 3 => ⟨S_, .i32⟩
  | 4 => ⟨S_, .f32⟩
  | 5 => ⟨S8x1x516x516, .f32⟩
  | 6 => ⟨S8x1x512x512, .f32⟩
  | 7 => ⟨S_, .f32⟩
  | 8 => ⟨S8x1x512x512, .f32⟩
  | 9 => ⟨S8x1x512x512, .f32⟩
  | 10 => ⟨S8x1x512x512, .f32⟩
  | 11 => ⟨S8x1x512x512, .f32⟩
  | 12 => ⟨S8x1x512x512, .f32⟩
  | 13 => ⟨S8x1x512x512, .f32⟩
  | 14 => ⟨S8x1x512x512, .f32⟩
  | 15 => ⟨S8x1x512x512, .f32⟩
  | 16 => ⟨S8x1x512x512, .f32⟩
  | 17 => ⟨S8x1x512x512, .f32⟩
  | 18 => ⟨S8x1x512x512, .f32⟩
  | 19 => ⟨S8x1x512x512, .f32⟩
  | 20 => ⟨S8x1x512x512, .f32⟩
  | 21 => ⟨S8x1x512x512, .f32⟩
  | 22 => ⟨S8x1x512x512, .f32⟩
  | 23 => ⟨S8x1x512x512, .f32⟩
  | 24 => ⟨S8x1x512x512, .f32⟩
  | 25 => ⟨S8x1x512x512, .f32⟩
  | 26 => ⟨S8x1x512x512, .f32⟩
  | 27 => ⟨S8x1x512x512, .f32⟩
  | 28 => ⟨S8x1x512x512, .f32⟩
  | 29 => ⟨S8x1x512x512, .f32⟩
  | 30 => ⟨S8x1x512x512, .f32⟩
  | 31 => ⟨S8x1x512x512, .f32⟩
  | 32 => ⟨S8x1x512x512, .f32⟩
  | 33 => ⟨S8x1x512x512, .f32⟩
  | 34 => ⟨S8x1x512x512, .f32⟩
  | 35 => ⟨S8x1x512x512, .f32⟩
  | 36 => ⟨S8x1x512x512, .f32⟩
  | 37 => ⟨S8x1x512x512, .f32⟩
  | 38 => ⟨S8x1x512x512, .f32⟩
  | 39 => ⟨S8x1x512x512, .f32⟩
  | 40 => ⟨S8x1x512x512, .f32⟩
  | 41 => ⟨S8x1x512x512, .f32⟩
  | 42 => ⟨S8x1x512x512, .f32⟩
  | 43 => ⟨S8x1x512x512, .f32⟩
  | 44 => ⟨S8x1x512x512, .f32⟩
  | 45 => ⟨S8x1x512x512, .f32⟩
  | 46 => ⟨S8x1x512x512, .f32⟩
  | 47 => ⟨S8x1x512x512, .f32⟩
  | 48 => ⟨S8x1x512x512, .f32⟩
  | 49 => ⟨S8x1x512x512, .f32⟩
  | 50 => ⟨S8x1x512x512, .f32⟩
  | 51 => ⟨S8x1x512x512, .f32⟩
  | 52 => ⟨S8x1x512x512, .f32⟩
  | 53 => ⟨S8x1x512x512, .f32⟩
  | 54 => ⟨S8x1x512x512, .f32⟩
  | 55 => ⟨S8x1x512x512, .f32⟩
  | 56 => ⟨S8x1x512x512, .f32⟩
  | 57 => ⟨S8x1x512x512, .f32⟩
  | 58 => ⟨S_, .f32⟩
  | 59 => ⟨S8x1x512x512, .f32⟩
  | 60 => ⟨S8x1x512x512, .i1⟩
  | 61 => ⟨S8x1x512x512, .f32⟩
  | 62 => ⟨S8x1x512x512, .f32⟩
  | 63 => ⟨S8x1x512x512, .f32⟩
  | 64 => ⟨S8x512x512, .f32⟩
  | 65 => ⟨S8x512x512, .f32⟩
  | 66 => ⟨S_, .f32⟩
  | 67 => ⟨S8x512x512, .f32⟩
  | 68 => ⟨S8x512x512, .f32⟩
  | 69 => ⟨S_, .f32⟩
  | 70 => ⟨S8x512x512, .f32⟩
  | 71 => ⟨S8x512x512, .f32⟩
  | 72 => ⟨S8x512x512, .i32⟩
  | 73 => ⟨S_, .i32⟩
  | 74 => ⟨S_, .i32⟩
  | 75 => ⟨S_, .i32⟩
  | 76 => ⟨S8x512x512, .i32⟩
  | 77 => ⟨S8x512x512, .i32⟩
  | 78 => ⟨S_, .i32⟩
  | 79 => ⟨S8x512x512, .i32⟩
  | 80 => ⟨S8x512x512, .i32⟩
  | 81 => ⟨S8, .i32⟩
  | 82 => ⟨S8x1x1, .i32⟩
  | 83 => ⟨S_, .f32⟩
  | 84 => ⟨S8x256, .f32⟩
  | 85 => ⟨S_, .i32⟩
  | 86 => ⟨S8x1x1, .i32⟩
  | 87 => ⟨S8x1x1, .i1⟩
  | 88 => ⟨S_, .i32⟩
  | 89 => ⟨S8x1x1, .i32⟩
  | 90 => ⟨S8x1x1, .i32⟩
  | 91 => ⟨S8x1x1, .i32⟩
  | 92 => ⟨S_, .i32⟩
  | 93 => ⟨S8x512x512, .i32⟩
  | 94 => ⟨S8x512x512, .i1⟩
  | 95 => ⟨S_, .i32⟩
  | 96 => ⟨S8x512x512, .i32⟩
  | 97 => ⟨S8x512x512, .i32⟩
  | 98 => ⟨S8x512x512, .i32⟩
  | 99 => ⟨S8x512x512, .i32⟩
  | 100 => ⟨S8x512x512x1, .i32⟩
  | 101 => ⟨S8x512x512x1, .i32⟩
  | 102 => ⟨S8x512x512x2, .i32⟩
  | 103 => ⟨S8x256, .f32⟩
  | 104 => ⟨S_, .f32⟩
  | 105 => ⟨S8, .f32⟩
  | 106 => ⟨S8x1, .f32⟩
  | 107 => ⟨S8x256, .f32⟩
  | 108 => ⟨S8x256, .f32⟩
  | 109 => ⟨S_, .f32⟩
  | 110 => ⟨S_, .f32⟩
  | 111 => ⟨S8x256, .f32⟩
  | 112 => ⟨S256, .f32⟩
  | 113 => ⟨S1x256, .f32⟩
  | 114 => ⟨S8x256, .f32⟩
  | 115 => ⟨S8x256, .f32⟩
  | 116 => ⟨S_, .f32⟩
  | 117 => ⟨S_, .f32⟩
  | 118 => ⟨S8x256, .f32⟩
  | 119 => ⟨S8x1, .f32⟩
  | 120 => ⟨S8, .f32⟩
  | 121 => ⟨S8x254, .f32⟩
  | 122 => ⟨S8x254x1, .f32⟩
  | 123 => ⟨S8x254, .f32⟩
  | 124 => ⟨S8x1x254, .f32⟩
  | 125 => ⟨S8x254, .f32⟩
  | 126 => ⟨S8x254x1, .f32⟩
  | 127 => ⟨S8x254, .f32⟩
  | _ => ⟨S8x1x512x512, .f32⟩

abbrev hbmTy0_1 (i : Nat) : BufTy := match i % 128 with
  | 0 => ⟨S8x1x254, .f32⟩
  | 1 => ⟨S8x254x254, .f32⟩
  | 2 => ⟨S8x254x254, .f32⟩
  | 3 => ⟨S8x254x254, .f32⟩
  | 4 => ⟨S_, .f32⟩
  | 5 => ⟨S8x1x254, .f32⟩
  | 6 => ⟨S8x1x254, .f32⟩
  | 7 => ⟨S_, .f32⟩
  | 8 => ⟨S8x254x1, .f32⟩
  | 9 => ⟨S8x254x1, .i1⟩
  | 10 => ⟨S_, .f32⟩
  | 11 => ⟨S8x254x254, .f32⟩
  | 12 => ⟨S8x254x254, .i1⟩
  | 13 => ⟨S8x254x254, .i1⟩
  | 14 => ⟨S8x254x254, .i1⟩
  | 15 => ⟨S_, .f32⟩
  | 16 => ⟨S8x1x254, .f32⟩
  | 17 => ⟨S8x1x254, .i1⟩
  | 18 => ⟨S8x254x254, .i1⟩
  | 19 => ⟨S8x254x254, .i1⟩
  | 20 => ⟨S_, .f32⟩
  | 21 => ⟨S8x254x1, .f32⟩
  | 22 => ⟨S8x254x1, .f32⟩
  | 23 => ⟨S8x254x1, .f32⟩
  | 24 => ⟨S8x254x254, .f32⟩
  | 25 => ⟨S8x254x254, .f32⟩
  | 26 => ⟨S8x254x254, .f32⟩
  | 27 => ⟨S_, .f32⟩
  | 28 => ⟨S8x254x254, .f32⟩
  | 29 => ⟨S8x254x254, .f32⟩
  | 30 => ⟨S8x254x254, .f32⟩
  | 31 => ⟨S8x1x1, .f32⟩
  | 32 => ⟨S8x1x254, .f32⟩
  | 33 => ⟨S8x1x254, .f32⟩
  | 34 => ⟨S_, .f32⟩
  | 35 => ⟨S8x1x254, .f32⟩
  | 36 => ⟨S8x1x254, .f32⟩
  | 37 => ⟨S8x1x254, .f32⟩
  | 38 => ⟨S8x1x1, .f32⟩
  | 39 => ⟨S8x254x1, .f32⟩
  | 40 => ⟨S8x254x1, .f32⟩
  | 41 => ⟨S8x254x1, .f32⟩
  | 42 => ⟨S8x254x1, .f32⟩
  | 43 => ⟨S8x1x1, .f32⟩
  | 44 => ⟨S8x254x254, .f32⟩
  | 45 => ⟨S8x254x254, .f32⟩
  | 46 => ⟨S8x254x254, .f32⟩
  | 47 => ⟨S8x254x254, .f32⟩
  | 48 => ⟨S8x254x254, .f32⟩
  | 49 => ⟨S8x254x254, .f32⟩
  | 50 => ⟨S8x1x1, .f32⟩
  | 51 => ⟨S8x1x254, .f32⟩
  | 52 => ⟨S8x1x254, .f32⟩
  | 53 => ⟨S8x1x254, .f32⟩
  | 54 => ⟨S8x1x254, .f32⟩
  | 55 => ⟨S8x254x254, .f32⟩
  | 56 => ⟨S8x254x254, .f32⟩
  | 57 => ⟨S_, .f32⟩
  | 58 => ⟨S_, .f32⟩
  | 59 => ⟨S254x254, .f32⟩
  | 60 => ⟨S8x254x254, .f32⟩
  | 61 => ⟨S8x254x254, .f32⟩
  | 62 => ⟨S8x64516, .f32⟩
  | 63 => ⟨S8x64516, .i32⟩
  | 64 => ⟨S_, .f32⟩
  | 65 => ⟨S_, .i32⟩
  | 66 => ⟨S8, .f32⟩
  | 67 => ⟨S8, .i32⟩
  | 68 => ⟨S_, .i32⟩
  | 69 => ⟨S8, .i32⟩
  | 70 => ⟨S8, .i32⟩
  | 71 => ⟨S_, .i32⟩
  | 72 => ⟨S8, .i32⟩
  | 73 => ⟨S8, .i32⟩
  | 74 => ⟨S_, .i32⟩
  | 75 => ⟨S8, .i32⟩
  | 76 => ⟨S8, .i32⟩
  | 77 => ⟨S_, .i32⟩
  | 78 => ⟨S8, .i32⟩
  | 79 => ⟨S8, .i32⟩
  | 80 => ⟨S8, .f32⟩
  | 81 => ⟨S_, .f32⟩
  | 82 => ⟨S8, .f32⟩
  | 83 => ⟨S8, .f32⟩
  | 84 => ⟨S8, .f32⟩
  | 85 => ⟨S_, .f32⟩
  | 86 => ⟨S8, .f32⟩
  | 87 => ⟨S8, .f32⟩
  | 88 => ⟨S8x1x1x1, .f32⟩
  | 89 => ⟨S8x1x1x1, .f32⟩
  | 90 => ⟨S8x1x512x512, .f32⟩
  | 91 => ⟨S8x1x512x512, .i1⟩
  | 92 => ⟨S8x1x512x512, .f32⟩
  | 93 => ⟨S8x1x512x512, .i1⟩
  | 94 => ⟨S8x1x512x512, .f32⟩
  | 95 => ⟨S8x1x512x512, .i1⟩
  | 96 => ⟨S8x1x512x512, .i1⟩
  | 97 => ⟨S_, .f32⟩
  | 98 => ⟨S_, .f32⟩
  | 99 => ⟨S8x1x512x512, .f32⟩
  | 100 => ⟨S8x1x512x512, .f32⟩
  | 101 => ⟨S8x1x512x512, .f32⟩
  | 102 => ⟨S_, .f32⟩
  | 103 => ⟨S8x1x512x512, .f32⟩
  | 104 => ⟨S8x1x512x512, .f32⟩
  | 105 => ⟨S8x1x512x512, .f32⟩
  | 106 => ⟨S8x1x512x512, .f32⟩
  | 107 => ⟨S8x1x512x512, .f32⟩
  | 108 => ⟨S_, .f32⟩
  | 109 => ⟨S8x1, .f32⟩
  | 110 => ⟨S_, .f32⟩
  | 111 => ⟨S8x1, .f32⟩
  | 112 => ⟨S_, .f32⟩
  | 113 => ⟨S8x1, .f32⟩
  | 114 => ⟨S8x1, .f32⟩
  | 115 => ⟨S_, .f32⟩
  | 116 => ⟨S8x1, .f32⟩
  | 117 => ⟨S8x1, .i1⟩
  | 118 => ⟨S8x1, .f32⟩
  | 119 => ⟨S8x1, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S8x1, .f32⟩
  | 127 => ⟨S8x1, .f32⟩
  | _ => ⟨S8x1x512x512, .f32⟩

abbrev hbmTy0_2 (i : Nat) : BufTy := match i % 128 with
  | 0 => ⟨S_, .f32⟩
  | 1 => ⟨S_, .f32⟩
  | 2 => ⟨S_, .f32⟩
  | _ => ⟨S8x1x512x512, .f32⟩

abbrev hbmTy (i : Nat) : BufTy := match i / 128 with
  | 0 => hbmTy0_0 i
  | 1 => hbmTy0_1 i
  | 2 => hbmTy0_2 i
  | _ => ⟨S8x1x512x512, .f32⟩

abbrev bufTy : (tb : Table) → Fin (tcTables nBuf tb) → BufTy
  | .hbm, ⟨i, _⟩ => hbmTy i
  | _, _ => ⟨S8x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_cst_0 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_cst_1 : Ref sig .tc := ⟨.hbm, 66, rfl⟩
abbrev main_v59 : Ref sig .tc := ⟨.hbm, 67, rfl⟩
abbrev main_v60 : Ref sig .tc := ⟨.hbm, 68, rfl⟩
abbrev main_cst_2 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_c_3 : Ref sig .tc := ⟨.hbm, 73, rfl⟩
abbrev main_c_4 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_5 : Ref sig .tc := ⟨.hbm, 83, rfl⟩
abbrev main_v67 : Ref sig .tc := ⟨.hbm, 84, rfl⟩
abbrev main_c_6 : Ref sig .tc := ⟨.hbm, 85, rfl⟩
abbrev main_v68 : Ref sig .tc := ⟨.hbm, 86, rfl⟩
abbrev main_v69 : Ref sig .tc := ⟨.hbm, 87, rfl⟩
abbrev main_c_7 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_c_8 : Ref sig .tc := ⟨.hbm, 92, rfl⟩
abbrev main_v73 : Ref sig .tc := ⟨.hbm, 93, rfl⟩
abbrev main_v74 : Ref sig .tc := ⟨.hbm, 94, rfl⟩
abbrev main_c_9 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_cst_10 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_call2_call0_cst : Ref sig .tc := ⟨.hbm, 109, rfl⟩
abbrev main_call2_call0_v0 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_call3_call0_cst : Ref sig .tc := ⟨.hbm, 116, rfl⟩
abbrev main_call3_call0_v0 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_cst_11 : Ref sig .tc := ⟨.hbm, 132, rfl⟩
abbrev main_v106 : Ref sig .tc := ⟨.hbm, 133, rfl⟩
abbrev main_v107 : Ref sig .tc := ⟨.hbm, 134, rfl⟩
abbrev main_cst_12 : Ref sig .tc := ⟨.hbm, 135, rfl⟩
abbrev main_v108 : Ref sig .tc := ⟨.hbm, 136, rfl⟩
abbrev main_v109 : Ref sig .tc := ⟨.hbm, 137, rfl⟩
abbrev main_cst_13 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_cst_14 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_cst_15 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_cst_16 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_cst_17 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_cst_18 : Ref sig .tc := ⟨.hbm, 185, rfl⟩
abbrev main_call4_v0 : Ref sig .tc := ⟨.hbm, 186, rfl⟩
abbrev main_call4_v1 : Ref sig .tc := ⟨.hbm, 187, rfl⟩
abbrev main_call4_v2 : Ref sig .tc := ⟨.hbm, 188, rfl⟩
abbrev main_v152 : Ref sig .tc := ⟨.hbm, 189, rfl⟩
abbrev main_v153 : Ref sig .tc := ⟨.hbm, 190, rfl⟩
abbrev main_call5_v0 : Ref sig .tc := ⟨.hbm, 191, rfl⟩
abbrev main_call5_cst : Ref sig .tc := ⟨.hbm, 192, rfl⟩
abbrev main_call5_c : Ref sig .tc := ⟨.hbm, 193, rfl⟩
abbrev main_call5_v1_0 : Ref sig .tc := ⟨.hbm, 194, rfl⟩
abbrev main_v154 : Ref sig .tc := ⟨.hbm, 195, rfl⟩
abbrev main_c_19 : Ref sig .tc := ⟨.hbm, 196, rfl⟩
abbrev main_v155 : Ref sig .tc := ⟨.hbm, 197, rfl⟩
abbrev main_v156 : Ref sig .tc := ⟨.hbm, 198, rfl⟩
abbrev main_c_20 : Ref sig .tc := ⟨.hbm, 199, rfl⟩
abbrev main_v157 : Ref sig .tc := ⟨.hbm, 200, rfl⟩
abbrev main_v158 : Ref sig .tc := ⟨.hbm, 201, rfl⟩
abbrev main_c_21 : Ref sig .tc := ⟨.hbm, 202, rfl⟩
abbrev main_v159 : Ref sig .tc := ⟨.hbm, 203, rfl⟩
abbrev main_v160 : Ref sig .tc := ⟨.hbm, 204, rfl⟩
abbrev main_c_22 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_cst_23 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_cst_24 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_cst_25 : Ref sig .tc := ⟨.hbm, 225, rfl⟩
abbrev main_cst_26 : Ref sig .tc := ⟨.hbm, 226, rfl⟩
abbrev main_call6_v0 : Ref sig .tc := ⟨.hbm, 227, rfl⟩
abbrev main_call6_v1 : Ref sig .tc := ⟨.hbm, 228, rfl⟩
abbrev main_v178 : Ref sig .tc := ⟨.hbm, 229, rfl⟩
abbrev main_cst_27 : Ref sig .tc := ⟨.hbm, 230, rfl⟩
abbrev main_call7_v0 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_cst_28 : Ref sig .tc := ⟨.hbm, 236, rfl⟩
abbrev main_v183 : Ref sig .tc := ⟨.hbm, 237, rfl⟩
abbrev main_cst_29 : Ref sig .tc := ⟨.hbm, 238, rfl⟩
abbrev main_v184 : Ref sig .tc := ⟨.hbm, 239, rfl⟩
abbrev main_cst_30 : Ref sig .tc := ⟨.hbm, 240, rfl⟩
abbrev main_v185 : Ref sig .tc := ⟨.hbm, 241, rfl⟩
abbrev main_v186 : Ref sig .tc := ⟨.hbm, 242, rfl⟩
abbrev main_cst_31 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_cst_32 : Ref sig .tc := ⟨.hbm, 248, rfl⟩
abbrev main_v191 : Ref sig .tc := ⟨.hbm, 249, rfl⟩
abbrev main_cst_33 : Ref sig .tc := ⟨.hbm, 250, rfl⟩
abbrev main_v192 : Ref sig .tc := ⟨.hbm, 251, rfl⟩
abbrev main_cst_34 : Ref sig .tc := ⟨.hbm, 252, rfl⟩
abbrev main_call8_v0 : Ref sig .tc := ⟨.hbm, 253, rfl⟩
abbrev main_call8_v1 : Ref sig .tc := ⟨.hbm, 254, rfl⟩
abbrev main_v193 : Ref sig .tc := ⟨.hbm, 255, rfl⟩
abbrev main_cst_35 : Ref sig .tc := ⟨.hbm, 256, rfl⟩
abbrev main_v194 : Ref sig .tc := ⟨.hbm, 257, rfl⟩
abbrev main_v195 : Ref sig .tc := ⟨.hbm, 258, rfl⟩

abbrev nD : Nat := 1
abbrev τ : Topo := Topo.v7x

variable {F : FTy → Type} [FloatOps F]
-- ==== Proof.RefOps.lean ====
module

public import proofs.«01_k».proof.ReferenceIdeal
public import proofs.«01_k».proof.Proof.Gen.ReferenceIdeal
public import Idealize.ShloMosaic.Lib.StableHlo.RunHlo
public import Idealize.ShloMosaic.Lib.StableHlo.RunRead
public import Idealize.ShloMosaic.Lib.Claim
public import Idealize.ShloMosaic.Lib.Quiescent
public import Idealize.ShloMosaic.Lib.Pipeline.Frame

/-! The reference program as a list of host operations, cut into segments, and its run. -/

@[expose] public section

set_option maxRecDepth 16384

noncomputable section

namespace Cert.ReferenceIdeal

namespace Own

open Idealize.ShloMosaic Idealize.SL.Sem
open Facts₀ Facts

variable {F : FTy → Type} [FloatOps F]

/-- The operations that compute the labels, padded by two zeros on each side. -/
def segA : List (HloOp τ sig (Elt F)) :=
  [ StableHlo.nullary main_c (constantI S_ 32 0#32),
    StableHlo.unary main_c main_call0_v0 ((sitofp .f32) : (⟨S_, .i32⟩ : BufTy).Contents (Elt F) → (⟨S_, .f32⟩ : BufTy).Contents (Elt F)),
    StableHlo.binary main_arg1 main_call0_v0 main_v0 ((fun x v => pad S8x1x516x516 ![0, 0, 2, 2] ![0, 0, 2, 2] ![0, 0, 0, 0] x v pads_S8x1x512x512_S8x1x516x516_000_000_220_220 h_S_) : (⟨S8x1x512x512, .f32⟩ : BufTy).Contents (Elt F) → (⟨S_, .f32⟩ : BufTy).Contents (Elt F) → (⟨S8x1x516x516, .f32⟩ : BufTy).Contents (Elt F)) ]

/-- The operations that compute the dilated mask, and the images and predictions under it. -/
def segB : List (HloOp τ sig (Elt F)) :=
  [ StableHlo.unary main_v0 main_v1 ((extractStridedSlice S8x1x512x512 ![0, 0, 0, 0] · slices_S8x1x516x516_S8x1x512x512_0_0_0_0) : (⟨S8x1x516x516, .f32⟩ : BufTy).Contents (Elt F) → (⟨S8x1x512x512, .f32⟩ : BufTy).Contents (Elt F)),
    StableHlo.nullary main_cst (constant S_ .f32 0x00000000#32),
    StableHlo.unary main_cst main_v2 (broadcastInDim S8x1x512x512 ![] bcast_S_S8x1x512x512 : (⟨S_, .f32⟩ : BufTy).Contents (Elt F) → (⟨S8x1x512x512, .f32⟩ : BufTy).Contents (Elt F)),
    StableHlo.binary main_v2 main_v1 main_v3 (addf : (⟨S8x1x512x512, .f32⟩ : BufTy).Contents (Elt F) → (⟨S8x1x512x512, .f32⟩ : BufTy).Contents (Elt F) → (⟨S8x1x512x512, .f32⟩ : BufTy).Contents (Elt F)),
    StableHlo.unary main_v0 main_v4 ((extractStridedSlice S8x1x512x512 ![0, 0, 0, 1] · slices_S8x1x516x516_S8x1x512x512_0_0_0_1) : (⟨S8x1x516x516, .f32⟩ : BufTy).Contents (Elt F) → (⟨S8x1x512x512, .f32⟩ : BufTy).Contents (Elt F)),
    StableHlo.binary main_v3 main_v4 main_v5 (addf : (⟨S8x1x512x512, .f32⟩ : BufTy).Contents (Elt F) → (⟨S8x1x512x512, .f32⟩ : BufTy).Contents (Elt F) → (⟨S8x1x512x512, .f32⟩ : BufTy).Contents (Elt F)),
    StableHlo.unary main_v0 main_v6 ((extractStridedSlice S8x1x512x512 ![0, 0, 0, 2] · slices_S8x1x516x516_S8x1x512x512_0_0_0_2) : (⟨S8x1x516x516, .f32⟩ : BufTy).Contents (Elt F) → (⟨S8x1x512x512, .f32⟩ : BufTy).Contents (Elt F)),
    StableHlo.binary main_v5 main_v6 main_v7 (addf : (⟨S8x1x512x512, .f32⟩ : BufTy).Contents (Elt F) → (⟨S8x1x512x512, .f32⟩ : BufTy).Contents (Elt F) → (⟨S8x1x512x512, .f32⟩ : BufTy).Contents (Elt F)),
    StableHlo.unary main_v0 main_v8 ((extractStridedSlice S8x1x512x512 ![0, 0, 0, 3] · slices_S8x1x516x516_S8x1x512x512_0_0_0_3) : (⟨S8x1x516x516, .f32⟩ : BufTy).Contents (Elt F) → (⟨S8x1x512x512, .f32⟩ : BufTy).Contents (Elt F)),
    StableHlo.binary main_v7 main_v8 main_v9 (addf : (⟨S8x1x512x512, .f32⟩ : BufTy).Contents (Elt F) → (⟨S8x1x512x512, .f32⟩ : BufTy).Contents (Elt F) → (⟨S8x1x512x512, .f32⟩ : BufTy).Contents (Elt F)),
    StableHlo.unary main_v0 main_v10 ((extractStridedSlice S8x1x512x512 ![0, 0, 0, 4] · slices_S8x1x516x516_S8x1x512x512_0_0_0_4) : (⟨S8x1x516x516, .f32⟩ : BufTy).Contents (Elt F) → (⟨S8x1x512x512, .f32⟩ : BufTy).Contents (Elt F)),
    StableHlo.binary main_v9 main_v10 main_v11 (addf : (⟨S8x1x512x512, .f32⟩ : BufTy).Contents (Elt F) → (⟨S8x1x512x512, .f32⟩ : BufTy).Contents (Elt F) → (⟨S8x1x512x512, .f32⟩ : BufTy).Contents (Elt F)),
    StableHlo.unary main_v0 main_v12 ((extractStridedSlice S8x1x512x512 ![0, 0, 1, 0] · slices_S8x1x516x516_S8x1x512x512_0_0_1_0) : (⟨S8x1x516x516, .f32⟩ : BufTy).Contents (Elt F) → (⟨S8x1x512x512, .f32⟩ : BufTy).Contents (Elt F)),
    StableHlo.binary main_v11 main_v12 main_v13 (addf : (⟨S8x1x512x512, .f32⟩ : BufTy).Contents (Elt F) → (⟨S8x1x512x512, .f32⟩ : BufTy).Contents (Elt F) → (⟨S8x1x512x512, .f32⟩ : BufTy).Contents (Elt F)),
    StableHlo.unary main_v0 main_v14 ((extractStridedSlice S8x1x512x512 ![0, 0, 1, 1] · slices_S8x1x516x516_S8x1x512x512_0_0_1_1) : (⟨S8x1x516x516, .f32⟩ : BufTy).Contents (Elt F) → (⟨S8x1x512x512, .f32⟩ : BufTy).Contents (Elt F)),
    StableHlo.binary main_v13 main_v14 main_v15 (addf : (⟨S8x1x512x512, .f32⟩ : BufTy).Contents (Elt F) → (⟨S8x1x512x512, .f32⟩ : BufTy).Contents (Elt F) → (⟨S8x1x512x512, .f32⟩ : BufTy).Contents (Elt F)),
    StableHlo.unary main_v0 main_v16 ((extractStridedSlice S8x1x512x512 ![0, 0, 1, 2] · slices_S8x1x516x516_S8x1x512x512_0_0_1_2) : (⟨S8x1x516x516, .f32⟩ : BufTy).Contents (Elt F) → (⟨S8x1x512x512, .f32⟩ : BufTy).Contents (Elt F)),
    StableHlo.binary main_v15 main_v16 main_v17 (addf : (⟨S8x1x512x512, .f32⟩ : BufTy).Contents (Elt F) → (⟨S8x1x512x512, .f32⟩ : BufTy).Contents (Elt F) → (⟨S8x1x512x512, .f32⟩ : BufTy).Contents (Elt F)),
    StableHlo.unary main_v0 main_v18 ((extractStridedSlice S8x1x512x512 ![0, 0, 1, 3] · slices_S8x1x516x516_S8x1x512x512_0_0_1_3) : (⟨S8x1x516x516, .f32⟩ : BufTy).Contents (Elt F) → (⟨S8x1x512x512, .f32⟩ : BufTy).Contents (Elt F)),
    StableHlo.binary main_v17 main_v18 main_v19 (addf : (⟨S8x1x512x512, .f32⟩ : BufTy).Contents (Elt F) → (⟨S8x1x512x512, .f32⟩ : BufTy).Contents (Elt F) → (⟨S8x1x512x512, .f32⟩ : BufTy).Contents (Elt F)),
    StableHlo.unary main_v0 main_v20 ((extractStridedSlice S8x1x512x512 ![0, 0, 1, 4] · slices_S8x1x516x516_S8x1x512x512_0_0_1_4) : (⟨S8x1x516x516, .f32⟩ : BufTy).Contents (Elt F) → (⟨S8x1x512x512, .f32⟩ : BufTy).Contents (Elt F)),
    StableHlo.binary main_v19 main_v20 main_v21 (addf : (⟨S8x1x512x512, .f32⟩ : BufTy).Contents (Elt F) → (⟨S8x1x512x512, .f32⟩ : BufTy).Contents (Elt F) → (⟨S8x1x512x512, .f32⟩ : BufTy).Contents (Elt F)),
    StableHlo.unary main_v0 main_v22 ((extractStridedSlice S8x1x512x512 ![0, 0, 2, 0] · slices_S8x1x516x516_S8x1x512x512_0_0_2_0) : (⟨S8x1x516x516, .f32⟩ : BufTy).Contents (Elt F) → (⟨S8x1x512x512, .f32⟩ : BufTy).Contents (Elt F)),
    StableHlo.binary main_v21 main_v22 main_v23 (addf : (⟨S8x1x512x512, .f32⟩ : BufTy).Contents (Elt F) → (⟨S8x1x512x512, .f32⟩ : BufTy).Contents (Elt F) → (⟨S8x1x512x512, .f32⟩ : BufTy).Contents (Elt F)),
    StableHlo.unary main_v0 main_v24 ((extractStridedSlice S8x1x512x512 ![0, 0, 2, 1] · slices_S8x1x516x516_S8x1x512x512_0_0_2_1) : (⟨S8x1x516x516, .f32⟩ : BufTy).Contents (Elt F) → (⟨S8x1x512x512, .f32⟩ : BufTy).Contents (Elt F)),
    StableHlo.binary main_v23 main_v24 main_v25 (addf : (⟨S8x1x512x512, .f32⟩ : BufTy).Contents (Elt F) → (⟨S8x1x512x512, .f32⟩ : BufTy).Contents (Elt F) → (⟨S8x1x512x512, .f32⟩ : BufTy).Contents (Elt F)),
    StableHlo.unary main_v0 main_v26 ((extractStridedSlice S8x1x512x512 ![0, 0, 2, 2] · slices_S8x1x516x516_S8x1x512x512_0_0_2_2) : (⟨S8x1x516x516, .f32⟩ : BufTy).Contents (Elt F) → (⟨S8x1x512x512, .f32⟩ : BufTy).Contents (Elt F)),
    StableHlo.binary main_v25 main_v26 main_v27 (addf : (⟨S8x1x512x512, .f32⟩ : BufTy).Contents (Elt F) → (⟨S8x1x512x512, .f32⟩ : BufTy).Contents (Elt F) → (⟨S8x1x512x512, .f32⟩ : BufTy).Contents (Elt F)),
    StableHlo.unary main_v0 main_v28 ((extractStridedSlice S8x1x512x512 ![0, 0, 2, 3] · slices_S8x1x516x516_S8x1x512x512_0_0_2_3) : (⟨S8x1x516x516, .f32⟩ : BufTy).Contents (Elt F) → (⟨S8x1x512x512, .f32⟩ : BufTy).Contents (Elt F)),
    StableHlo.binary main_v27 main_v28 main_v29 (addf : (⟨S8x1x512x512, .f32⟩ : BufTy).Contents (Elt F) → (⟨S8x1x512x512, .f32⟩ : BufTy).Contents (Elt F) → (⟨S8x1x512x512, .f32⟩ : BufTy).Contents (Elt F)),
    StableHlo.unary main_v0 main_v30 ((extractStridedSlice S8x1x512x512 ![0, 0, 2, 4] · slices_S8x1x516x516_S8x1x512x512_0_0_2_4) : (⟨S8x1x516x516, .f32⟩ : BufTy).Contents (Elt F) → (⟨S8x1x512x512, .f32⟩ : BufTy).Contents (Elt F)),
    StableHlo.binary main_v29 main_v30 main_v31 (addf : (⟨S8x1x512x512, .f32⟩ : BufTy).Contents (Elt F) → (⟨S8x1x512x512, .f32⟩ : BufTy).Contents (Elt F) → (⟨S8x1x512x512, .f32⟩ : BufTy).Contents (Elt F)),
    StableHlo.unary main_v0 main_v32 ((extractStridedSlice S8x1x512x512 ![0, 0, 3, 0] · slices_S8x1x516x516_S8x1x512x512_0_0_3_0) : (⟨S8x1x516x516, .f32⟩ : BufTy).Contents (Elt F) → (⟨S8x1x512x512, .f32⟩ : BufTy).Contents (Elt F)),
    StableHlo.binary main_v31 main_v32 main_v33 (addf : (⟨S8x1x512x512, .f32⟩ : BufTy).Contents (Elt F) → (⟨S8x1x512x512, .f32⟩ : BufTy).Contents (Elt F) → (⟨S8x1x512x512, .f32⟩ : BufTy).Contents (Elt F)),
    StableHlo.unary main_v0 main_v34 ((extractStridedSlice S8x1x512x512 ![0, 0, 3, 1] · slices_S8x1x516x516_S8x1x512x512_0_0_3_1) : (⟨S8x1x516x516, .f32⟩ : BufTy).Contents (Elt F) → (⟨S8x1x512x512, .f32⟩ : BufTy).Contents (Elt F)),
    StableHlo.binary main_v33 main_v34 main_v35 (addf : (⟨S8x1x512x512, .f32⟩ : BufTy).Contents (Elt F) → (⟨S8x1x512x512, .f32⟩ : BufTy).Contents (Elt F) → (⟨S8x1x512x512, .f32⟩ : BufTy).Contents (Elt F)),
    StableHlo.unary main_v0 main_v36 ((extractStridedSlice S8x1x512x512 ![0, 0, 3, 2] · slices_S8x1x516x516_S8x1x512x512_0_0_3_2) : (⟨S8x1x516x516, .f32⟩ : BufTy).Contents (Elt F) → (⟨S8x1x512x512, .f32⟩ : BufTy).Contents (Elt F)),
    StableHlo.binary main_v35 main_v36 main_v37 (addf : (⟨S8x1x512x512, .f32⟩ : BufTy).Contents (Elt F) → (⟨S8x1x512x512, .f32⟩ : BufTy).Contents (Elt F) → (⟨S8x1x512x512, .f32⟩ : BufTy).Contents (Elt F)),
    StableHlo.unary main_v0 main_v38 ((extractStridedSlice S8x1x512x512 ![0, 0, 3, 3] · slices_S8x1x516x516_S8x1x512x512_0_0_3_3) : (⟨S8x1x516x516, .f32⟩ : BufTy).Contents (Elt F) → (⟨S8x1x512x512, .f32⟩ : BufTy).Contents (Elt F)),
    StableHlo.binary main_v37 main_v38 main_v39 (addf : (⟨S8x1x512x512, .f32⟩ : BufTy).Contents (Elt F) → (⟨S8x1x512x512, .f32⟩ : BufTy).Contents (Elt F) → (⟨S8x1x512x512, .f32⟩ : BufTy).Contents (Elt F)),
    StableHlo.unary main_v0 main_v40 ((extractStridedSlice S8x1x512x512 ![0, 0, 3, 4] · slices_S8x1x516x516_S8x1x512x512_0_0_3_4) : (⟨S8x1x516x516, .f32⟩ : BufTy).Contents (Elt F) → (⟨S8x1x512x512, .f32⟩ : BufTy).Contents (Elt F)),
    StableHlo.binary main_v39 main_v40 main_v41 (addf : (⟨S8x1x512x512, .f32⟩ : BufTy).Contents (Elt F) → (⟨S8x1x512x512, .f32⟩ : BufTy).Contents (Elt F) → (⟨S8x1x512x512, .f32⟩ : BufTy).Contents (Elt F)),
    StableHlo.unary main_v0 main_v42 ((extractStridedSlice S8x1x512x512 ![0, 0, 4, 0] · slices_S8x1x516x516_S8x1x512x512_0_0_4_0) : (⟨S8x1x516x516, .f32⟩ : BufTy).Contents (Elt F) → (⟨S8x1x512x512, .f32⟩ : BufTy).Contents (Elt F)),
    StableHlo.binary main_v41 main_v42 main_v43 (addf : (⟨S8x1x512x512, .f32⟩ : BufTy).Contents (Elt F) → (⟨S8x1x512x512, .f32⟩ : BufTy).Contents (Elt F) → (⟨S8x1x512x512, .f32⟩ : BufTy).Contents (Elt F)),
    StableHlo.unary main_v0 main_v44 ((extractStridedSlice S8x1x512x512 ![0, 0, 4, 1] · slices_S8x1x516x516_S8x1x512x512_0_0_4_1) : (⟨S8x1x516x516, .f32⟩ : BufTy).Contents (Elt F) → (⟨S8x1x512x512, .f32⟩ : BufTy).Contents (Elt F)),
    StableHlo.binary main_v43 main_v44 main_v45 (addf : (⟨S8x1x512x512, .f32⟩ : BufTy).Contents (Elt F) → (⟨S8x1x512x512, .f32⟩ : BufTy).Contents (Elt F) → (⟨S8x1x512x512, .f32⟩ : BufTy).Contents (Elt F)),
    StableHlo.unary main_v0 main_v46 ((extractStridedSlice S8x1x512x512 ![0, 0, 4, 2] · slices_S8x1x516x516_S8x1x512x512_0_0_4_2) : (⟨S8x1x516x516, .f32⟩ : BufTy).Contents (Elt F) → (⟨S8x1x512x512, .f32⟩ : BufTy).Contents (Elt F)),
    StableHlo.binary main_v45 main_v46 main_v47 (addf : (⟨S8x1x512x512, .f32⟩ : BufTy).Contents (Elt F) → (⟨S8x1x512x512, .f32⟩ : BufTy).Contents (Elt F) → (⟨S8x1x512x512, .f32⟩ : BufTy).Contents (Elt F)),
    StableHlo.unary main_v0 main_v48 ((extractStridedSlice S8x1x512x512 ![0, 0, 4, 3] · slices_S8x1x516x516_S8x1x512x512_0_0_4_3) : (⟨S8x1x516x516, .f32⟩ : BufTy).Contents (Elt F) → (⟨S8x1x512x512, .f32⟩ : BufTy).Contents (Elt F)),
    StableHlo.binary main_v47 main_v48 main_v49 (addf : (⟨S8x1x512x512, .f32⟩ : BufTy).Contents (Elt F) → (⟨S8x1x512x512, .f32⟩ : BufTy).Contents (Elt F) → (⟨S8x1x512x512, .f32⟩ : BufTy).Contents (Elt F)),
    StableHlo.unary main_v0 main_v50 ((extractStridedSlice S8x1x512x512 ![0, 0, 4, 4] · slices_S8x1x516x516_S8x1x512x512_0_0_4_4) : (⟨S8x1x516x516, .f32⟩ : BufTy).Contents (Elt F) → (⟨S8x1x512x512, .f32⟩ : BufTy).Contents (Elt F)),
    StableHlo.binary main_v49 main_v50 main_v51 (addf : (⟨S8x1x512x512, .f32⟩ : BufTy).Contents (Elt F) → (⟨S8x1x512x512, .f32⟩ : BufTy).Contents (Elt F) → (⟨S8x1x512x512, .f32⟩ : BufTy).Contents (Elt F)),
    StableHlo.nullary main_cst_0 (constant S_ .f32 0x00000000#32),
    StableHlo.unary main_cst_0 main_v52 (broadcastInDim S8x1x512x512 ![] bcast_S_S8x1x512x512 : (⟨S_, .f32⟩ : BufTy).Contents (Elt F) → (⟨S8x1x512x512, .f32⟩ : BufTy).Contents (Elt F)),
    StableHlo.binary main_v51 main_v52 main_v53 (cmpf .ogt : (⟨S8x1x512x512, .f32⟩ : BufTy).Contents (Elt F) → (⟨S8x1x512x512, .f32⟩ : BufTy).Contents (Elt F) → (⟨S8x1x512x512, .i1⟩ : BufTy).Contents (Elt F)),
    StableHlo.unary main_v53 main_v54 (uitofp .f32 : (⟨S8x1x512x512, .i1⟩ : BufTy).Contents (Elt F) → (⟨S8x1x512x512, .f32⟩ : BufTy).Contents (Elt F)),
    StableHlo.binary main_arg2 main_v54 main_v55 (mulf : (⟨S8x1x512x512, .f32⟩ : BufTy).Contents (Elt F) → (⟨S8x1x512x512, .f32⟩ : BufTy).Contents (Elt F) → (⟨S8x1x512x512, .f32⟩ : BufTy).Contents (Elt F)),
    StableHlo.binary main_arg0 main_v54 main_v56 (mulf : (⟨S8x1x512x512, .f32⟩ : BufTy).Contents (Elt F) → (⟨S8x1x512x512, .f32⟩ : BufTy).Contents (Elt F) → (⟨S8x1x512x512, .f32⟩ : BufTy).Contents (Elt F)) ]

/-- The operations that compute the histogram bin of each pixel. -/
def segC : List (HloOp τ sig (Elt F)) :=
  [ StableHlo.reshape main_v55 main_v57 (rfl : (.f32 : EltTy) = .f32) shapeCasts_S8x1x512x512_S8x512x512,
    StableHlo.reshape main_v54 main_v58 (rfl : (.f32 : EltTy) = .f32) shapeCasts_S8x1x512x512_S8x512x512,
    StableHlo.nullary main_cst_1 (constant S_ .f32 0x437F0000#32),
    StableHlo.unary main_cst_1 main_v59 (broadcastInDim S8x512x512 ![] bcast_S_S8x512x512 : (⟨S_, .f32⟩ : BufTy).Contents (Elt F) → (⟨S8x512x512, .f32⟩ : BufTy).Contents (Elt F)),
    StableHlo.binary main_v57 main_v59 main_v60 (mulf : (⟨S8x512x512, .f32⟩ : BufTy).Contents (Elt F) → (⟨S8x512x512, .f32⟩ : BufTy).Contents (Elt F) → (⟨S8x512x512, .f32⟩ : BufTy).Contents (Elt F)),
    StableHlo.nullary main_cst_2 (constant S_ .f32 0x3F808081#32),
    StableHlo.unary main_cst_2 main_v61 (broadcastInDim S8x512x512 ![] bcast_S_S8x512x512 : (⟨S_, .f32⟩ : BufTy).Contents (Elt F) → (⟨S8x512x512, .f32⟩ : BufTy).Contents (Elt F)),
    StableHlo.binary main_v60 main_v61 main_v62 (mulf : (⟨S8x512x512, .f32⟩ : BufTy).Contents (Elt F) → (⟨S8x512x512, .f32⟩ : BufTy).Contents (Elt F) → (⟨S8x512x512, .f32⟩ : BufTy).Contents (Elt F)),
    StableHlo.unary main_v62 main_v63 (fptosi 32 : (⟨S8x512x512, .f32⟩ : BufTy).Contents (Elt F) → (⟨S8x512x512, .i32⟩ : BufTy).Contents (Elt F)),
    StableHlo.nullary main_c_3 (constantI S_ 32 0#32),
    StableHlo.nullary main_c_4 (constantI S_ 32 255#32),
    StableHlo.unary main_c_3 main_call1_v0 (id : (⟨S_, .i32⟩ : BufTy).Contents (Elt F) → (⟨S_, .i32⟩ : BufTy).Contents (Elt F)),
    StableHlo.unary main_call1_v0 main_call1_v1 ((broadcastInDim S8x512x512 ![] bcast_S_S8x512x512) : (⟨S_, .i32⟩ : BufTy).Contents (Elt F) → (⟨S8x512x512, .i32⟩ : BufTy).Contents (Elt F)),
    StableHlo.binary main_call1_v1 main_v63 main_call1_v2 (maxsi : (⟨S8x512x512, .i32⟩ : BufTy).Contents (Elt F) → (⟨S8x512x512, .i32⟩ : BufTy).Contents (Elt F) → (⟨S8x512x512, .i32⟩ : BufTy).Contents (Elt F)),
    StableHlo.unary main_c_4 main_call1_v3 (id : (⟨S_, .i32⟩ : BufTy).Contents (Elt F) → (⟨S_, .i32⟩ : BufTy).Contents (Elt F)),
    StableHlo.unary main_call1_v3 main_call1_v4 ((broadcastInDim S8x512x512 ![] bcast_S_S8x512x512) : (⟨S_, .i32⟩ : BufTy).Contents (Elt F) → (⟨S8x512x512, .i32⟩ : BufTy).Contents (Elt F)),
    StableHlo.binary main_call1_v4 main_call1_v2 main_v64 (minsi : (⟨S8x512x512, .i32⟩ : BufTy).Contents (Elt F) → (⟨S8x512x512, .i32⟩ : BufTy).Contents (Elt F) → (⟨S8x512x512, .i32⟩ : BufTy).Contents (Elt F)),
    StableHlo.nullary main_v65 (iotaInDim S8 32 0),
    StableHlo.unary main_v65 main_v66 (broadcastInDim S8x1x1 ![0] bcast_S8_S8x1x1_0 : (⟨S8, .i32⟩ : BufTy).Contents (Elt F) → (⟨S8x1x1, .i32⟩ : BufTy).Contents (Elt F)),
    StableHlo.nullary main_cst_5 (constant S_ .f32 0x00000000#32),
    StableHlo.unary main_cst_5 main_v67 (broadcastInDim S8x256 ![] bcast_S_S8x256 : (⟨S_, .f32⟩ : BufTy).Contents (Elt F) → (⟨S8x256, .f32⟩ : BufTy).Contents (Elt F)),
    StableHlo.nullary main_c_6 (constantI S_ 32 0#32),
    StableHlo.unary main_c_6 main_v68 (broadcastInDim S8x1x1 ![] bcast_S_S8x1x1 : (⟨S_, .i32⟩ : BufTy).Contents (Elt F) → (⟨S8x1x1, .i32⟩ : BufTy).Contents (Elt F)),
    StableHlo.binary main_v66 main_v68 main_v69 (cmpi .slt : (⟨S8x1x1, .i32⟩ : BufTy).Contents (Elt F) → (⟨S8x1x1, .i32⟩ : BufTy).Contents (Elt F) → (⟨S8x1x1, .i1⟩ : BufTy).Contents (Elt F)),
    StableHlo.nullary main_c_7 (constantI S_ 32 8#32),
    StableHlo.unary main_c_7 main_v70 (broadcastInDim S8x1x1 ![] bcast_S_S8x1x1 : (⟨S_, .i32⟩ : BufTy).Contents (Elt F) → (⟨S8x1x1, .i32⟩ : BufTy).Contents (Elt F)),
    StableHlo.binary main_v66 main_v70 main_v71 (addi : (⟨S8x1x1, .i32⟩ : BufTy).Contents (Elt F) → (⟨S8x1x1, .i32⟩ : BufTy).Contents (Elt F) → (⟨S8x1x1, .i32⟩ : BufTy).Contents (Elt F)),
    StableHlo.ternary main_v69 main_v71 main_v66 main_v72 (select : (⟨S8x1x1, .i1⟩ : BufTy).Contents (Elt F) → (⟨S8x1x1, .i32⟩ : BufTy).Contents (Elt F) → (⟨S8x1x1, .i32⟩ : BufTy).Contents (Elt F) → (⟨S8x1x1, .i32⟩ : BufTy).Contents (Elt F)),
    StableHlo.nullary main_c_8 (constantI S_ 32 0#32),
    StableHlo.unary main_c_8 main_v73 (broadcastInDim S8x512x512 ![] bcast_S_S8x512x512 : (⟨S_, .i32⟩ : BufTy).Contents (Elt F) → (⟨S8x512x512, .i32⟩ : BufTy).Contents (Elt F)),
    StableHlo.binary main_v64 main_v73 main_v74 (cmpi .slt : (⟨S8x512x512, .i32⟩ : BufTy).Contents (Elt F) → (⟨S8x512x512, .i32⟩ : BufTy).Contents (Elt F) → (⟨S8x512x512, .i1⟩ : BufTy).Contents (Elt F)),
    StableHlo.nullary main_c_9 (constantI S_ 32 256#32),
    StableHlo.unary main_c_9 main_v75 (broadcastInDim S8x512x512 ![] bcast_S_S8x512x512 : (⟨S_, .i32⟩ : BufTy).Contents (Elt F) → (⟨S8x512x512, .i32⟩ : BufTy).Contents (Elt F)),
    StableHlo.binary main_v64 main_v75 main_v76 (addi : (⟨S8x512x512, .i32⟩ : BufTy).Contents (Elt F) → (⟨S8x512x512, .i32⟩ : BufTy).Contents (Elt F) → (⟨S8x512x512, .i32⟩ : BufTy).Contents (Elt F)),
    StableHlo.ternary main_v74 main_v76 main_v64 main_v77 (select : (⟨S8x512x512, .i1⟩ : BufTy).Contents (Elt F) → (⟨S8x512x512, .i32⟩ : BufTy).Contents (Elt F) → (⟨S8x512x512, .i32⟩ : BufTy).Contents (Elt F) → (⟨S8x512x512, .i32⟩ : BufTy).Contents (Elt F)),
    StableHlo.unary main_v72 main_v78 (broadcastInDim S8x512x512 ![0, 1, 2] bcast_S8x1x1_S8x512x512_0_1_2 : (⟨S8x1x1, .i32⟩ : BufTy).Contents (Elt F) → (⟨S8x512x512, .i32⟩ : BufTy).Contents (Elt F)),
    StableHlo.unary main_v78 main_v79 (broadcastInDim S8x512x512x1 ![0, 1, 2] bcast_S8x512x512_S8x512x512x1_0_1_2 : (⟨S8x512x512, .i32⟩ : BufTy).Contents (Elt F) → (⟨S8x512x512x1, .i32⟩ : BufTy).Contents (Elt F)),
    StableHlo.unary main_v77 main_v80 (broadcastInDim S8x512x512x1 ![0, 1, 2] bcast_S8x512x512_S8x512x512x1_0_1_2 : (⟨S8x512x512, .i32⟩ : BufTy).Contents (Elt F) → (⟨S8x512x512x1, .i32⟩ : BufTy).Contents (Elt F)) ]

/-- The operations that compute the histogram of the masked pixels. -/
def segD : List (HloOp τ sig (Elt F)) :=
  [ StableHlo.binary main_v79 main_v80 main_v81 ((fun a b => concatenate S8x512x512x2 3 [⟨S8x512x512x1, a⟩, ⟨S8x512x512x1, b⟩] concatenates_S8x512x512x1_S8x512x512x1_S8x512x512x2_d3) : (⟨S8x512x512x1, .i32⟩ : BufTy).Contents (Elt F) → (⟨S8x512x512x1, .i32⟩ : BufTy).Contents (Elt F) → (⟨S8x512x512x2, .i32⟩ : BufTy).Contents (Elt F)),
    StableHlo.ternary main_v67 main_v81 main_v58 main_v82 ((fun x i u => Host.scatterAdd scatter_S8x256_S8x512x512x2_S8x512x512_n_01_01_3 x i u) : (⟨S8x256, .f32⟩ : BufTy).Contents (Elt F) → (⟨S8x512x512x2, .i32⟩ : BufTy).Contents (Elt F) → (⟨S8x512x512, .f32⟩ : BufTy).Contents (Elt F) → (⟨S8x256, .f32⟩ : BufTy).Contents (Elt F)) ]

/-- The operations that compute the cumulative mass, the cumulative mean and the total mean. -/
def segE : List (HloOp τ sig (Elt F)) :=
  [ StableHlo.nullary main_cst_10 (constant S_ .f32 0x00000000#32),
    StableHlo.binary main_v82 main_cst_10 main_v83 ((fun x v => Host.reduceAdd x v reducesTo_S8x256_S8_d1 h_S_) : (⟨S8x256, .f32⟩ : BufTy).Contents (Elt F) → (⟨S_, .f32⟩ : BufTy).Contents (Elt F) → (⟨S8, .f32⟩ : BufTy).Contents (Elt F)),
    StableHlo.unary main_v83 main_v84 (broadcastInDim S8x1 ![0] bcast_S8_S8x1_0 : (⟨S8, .f32⟩ : BufTy).Contents (Elt F) → (⟨S8x1, .f32⟩ : BufTy).Contents (Elt F)),
    StableHlo.unary main_v84 main_v85 (broadcastInDim S8x256 ![0, 1] bcast_S8x1_S8x256_0_1 : (⟨S8x1, .f32⟩ : BufTy).Contents (Elt F) → (⟨S8x256, .f32⟩ : BufTy).Contents (Elt F)),
    StableHlo.binary main_v82 main_v85 main_v86 (Host.divf : (⟨S8x256, .f32⟩ : BufTy).Contents (Elt F) → (⟨S8x256, .f32⟩ : BufTy).Contents (Elt F) → (⟨S8x256, .f32⟩ : BufTy).Contents (Elt F)),
    StableHlo.nullary main_call2_call0_cst (constant S_ .f32 0x00000000#32),
    StableHlo.unary main_call2_call0_cst main_call2_call0_v0 ((broadcastInDim S_ ![] bcast_S_S_) : (⟨S_, .f32⟩ : BufTy).Contents (Elt F) → (⟨S_, .f32⟩ : BufTy).Contents (Elt F)),
    StableHlo.binary main_v86 main_call2_call0_v0 main_v87 ((fun x v => Host.reduceWindowAdd ![1, 256] ![1, 1] ![0, 255] ![0, 0] x v reduceWindows_S8x256_S8x256_w1s1p0_0_w256s1p255_0 h_S_) : (⟨S8x256, .f32⟩ : BufTy).Contents (Elt F) → (⟨S_, .f32⟩ : BufTy).Contents (Elt F) → (⟨S8x256, .f32⟩ : BufTy).Contents (Elt F)),
    StableHlo.nullary main_v88 (sitofp .f32 (iotaInDim S256 32 0)),
    StableHlo.unary main_v88 main_v89 (broadcastInDim S1x256 ![1] bcast_S256_S1x256_1 : (⟨S256, .f32⟩ : BufTy).Contents (Elt F) → (⟨S1x256, .f32⟩ : BufTy).Contents (Elt F)),
    StableHlo.unary main_v89 main_v90 (broadcastInDim S8x256 ![0, 1] bcast_S1x256_S8x256_0_1 : (⟨S1x256, .f32⟩ : BufTy).Contents (Elt F) → (⟨S8x256, .f32⟩ : BufTy).Contents (Elt F)),
    StableHlo.binary main_v86 main_v90 main_v91 (mulf : (⟨S8x256, .f32⟩ : BufTy).Contents (Elt F) → (⟨S8x256, .f32⟩ : BufTy).Contents (Elt F) → (⟨S8x256, .f32⟩ : BufTy).Contents (Elt F)),
    StableHlo.nullary main_call3_call0_cst (constant S_ .f32 0x00000000#32),
    StableHlo.unary main_call3_call0_cst main_call3_call0_v0 ((broadcastInDim S_ ![] bcast_S_S_) : (⟨S_, .f32⟩ : BufTy).Contents (Elt F) → (⟨S_, .f32⟩ : BufTy).Contents (Elt F)),
    StableHlo.binary main_v91 main_call3_call0_v0 main_v92 ((fun x v => Host.reduceWindowAdd ![1, 256] ![1, 1] ![0, 255] ![0, 0] x v reduceWindows_S8x256_S8x256_w1s1p0_0_w256s1p255_0 h_S_) : (⟨S8x256, .f32⟩ : BufTy).Contents (Elt F) → (⟨S_, .f32⟩ : BufTy).Contents (Elt F) → (⟨S8x256, .f32⟩ : BufTy).Contents (Elt F)),
    StableHlo.unary main_v92 main_v93 ((extractStridedSlice S8x1 ![0, 255] · slices_S8x256_S8x1_0_255) : (⟨S8x256, .f32⟩ : BufTy).Contents (Elt F) → (⟨S8x1, .f32⟩ : BufTy).Contents (Elt F)),
    StableHlo.reshape main_v93 main_v94 (rfl : (.f32 : EltTy) = .f32) shapeCasts_S8x1_S8 ]

/-- The operations that compute the class weights and which pairs of thresholds are admissible. -/
def segF : List (HloOp τ sig (Elt F)) :=
  [ StableHlo.unary main_v87 main_v95 ((extractStridedSlice S8x254 ![0, 0] · slices_S8x256_S8x254_0_0) : (⟨S8x256, .f32⟩ : BufTy).Contents (Elt F) → (⟨S8x254, .f32⟩ : BufTy).Contents (Elt F)),
    StableHlo.unary main_v95 main_v96 (broadcastInDim S8x254x1 ![0, 1] bcast_S8x254_S8x254x1_0_1 : (⟨S8x254, .f32⟩ : BufTy).Contents (Elt F) → (⟨S8x254x1, .f32⟩ : BufTy).Contents (Elt F)),
    StableHlo.unary main_v87 main_v97 ((extractStridedSlice S8x254 ![0, 0] · slices_S8x256_S8x254_0_0) : (⟨S8x256, .f32⟩ : BufTy).Contents (Elt F) → (⟨S8x254, .f32⟩ : BufTy).Contents (Elt F)),
    StableHlo.unary main_v97 main_v98 (broadcastInDim S8x1x254 ![0, 2] bcast_S8x254_S8x1x254_0_2 : (⟨S8x254, .f32⟩ : BufTy).Contents (Elt F) → (⟨S8x1x254, .f32⟩ : BufTy).Contents (Elt F)),
    StableHlo.unary main_v92 main_v99 ((extractStridedSlice S8x254 ![0, 0] · slices_S8x256_S8x254_0_0) : (⟨S8x256, .f32⟩ : BufTy).Contents (Elt F) → (⟨S8x254, .f32⟩ : BufTy).Contents (Elt F)),
    StableHlo.unary main_v99 main_v100 (broadcastInDim S8x254x1 ![0, 1] bcast_S8x254_S8x254x1_0_1 : (⟨S8x254, .f32⟩ : BufTy).Contents (Elt F) → (⟨S8x254x1, .f32⟩ : BufTy).Contents (Elt F)),
    StableHlo.unary main_v92 main_v101 ((extractStridedSlice S8x254 ![0, 0] · slices_S8x256_S8x254_0_0) : (⟨S8x256, .f32⟩ : BufTy).Contents (Elt F) → (⟨S8x254, .f32⟩ : BufTy).Contents (Elt F)),
    StableHlo.unary main_v101 main_v102 (broadcastInDim S8x1x254 ![0, 2] bcast_S8x254_S8x1x254_0_2 : (⟨S8x254, .f32⟩ : BufTy).Contents (Elt F) → (⟨S8x1x254, .f32⟩ : BufTy).Contents (Elt F)),
    StableHlo.unary main_v98 main_v103 (broadcastInDim S8x254x254 ![0, 1, 2] bcast_S8x1x254_S8x254x254_0_1_2 : (⟨S8x1x254, .f32⟩ : BufTy).Contents (Elt F) → (⟨S8x254x254, .f32⟩ : BufTy).Contents (Elt F)),
    StableHlo.unary main_v96 main_v104 (broadcastInDim S8x254x254 ![0, 1, 2] bcast_S8x254x1_S8x254x254_0_1_2 : (⟨S8x254x1, .f32⟩ : BufTy).Contents (Elt F) → (⟨S8x254x254, .f32⟩ : BufTy).Contents (Elt F)),
    StableHlo.binary main_v103 main_v104 main_v105 (subf : (⟨S8x254x254, .f32⟩ : BufTy).Contents (Elt F) → (⟨S8x254x254, .f32⟩ : BufTy).Contents (Elt F) → (⟨S8x254x254, .f32⟩ : BufTy).Contents (Elt F)),
    StableHlo.nullary main_cst_11 (constant S_ .f32 0x3F800000#32),
    StableHlo.unary main_cst_11 main_v106 (broadcastInDim S8x1x254 ![] bcast_S_S8x1x254 : (⟨S_, .f32⟩ : BufTy).Contents (Elt F) → (⟨S8x1x254, .f32⟩ : BufTy).Contents (Elt F)),
    StableHlo.binary main_v106 main_v98 main_v107 (subf : (⟨S8x1x254, .f32⟩ : BufTy).Contents (Elt F) → (⟨S8x1x254, .f32⟩ : BufTy).Contents (Elt F) → (⟨S8x1x254, .f32⟩ : BufTy).Contents (Elt F)),
    StableHlo.nullary main_cst_12 (constant S_ .f32 0x00000000#32),
    StableHlo.unary main_cst_12 main_v108 (broadcastInDim S8x254x1 ![] bcast_S_S8x254x1 : (⟨S_, .f32⟩ : BufTy).Contents (Elt F) → (⟨S8x254x1, .f32⟩ : BufTy).Contents (Elt F)),
    StableHlo.binary main_v96 main_v108 main_v109 (cmpf .ogt : (⟨S8x254x1, .f32⟩ : BufTy).Contents (Elt F) → (⟨S8x254x1, .f32⟩ : BufTy).Contents (Elt F) → (⟨S8x254x1, .i1⟩ : BufTy).Contents (Elt F)),
    StableHlo.nullary main_cst_13 (constant S_ .f32 0x00000000#32),
    StableHlo.unary main_cst_13 main_v110 (broadcastInDim S8x254x254 ![] bcast_S_S8x254x254 : (⟨S_, .f32⟩ : BufTy).Contents (Elt F) → (⟨S8x254x254, .f32⟩ : BufTy).Contents (Elt F)),
    StableHlo.binary main_v105 main_v110 main_v111 (cmpf .ogt : (⟨S8x254x254, .f32⟩ : BufTy).Contents (Elt F) → (⟨S8x254x254, .f32⟩ : BufTy).Contents (Elt F) → (⟨S8x254x254, .i1⟩ : BufTy).Contents (Elt F)),
    StableHlo.unary main_v109 main_v112 (broadcastInDim S8x254x254 ![0, 1, 2] bcast_S8x254x1_S8x254x254_0_1_2 : (⟨S8x254x1, .i1⟩ : BufTy).Contents (Elt F) → (⟨S8x254x254, .i1⟩ : BufTy).Contents (Elt F)),
    StableHlo.binary main_v112 main_v111 main_v113 (andi : (⟨S8x254x254, .i1⟩ : BufTy).Contents (Elt F) → (⟨S8x254x254, .i1⟩ : BufTy).Contents (Elt F) → (⟨S8x254x254, .i1⟩ : BufTy).Contents (Elt F)),
    StableHlo.nullary main_cst_14 (constant S_ .f32 0x00000000#32),
    StableHlo.unary main_cst_14 main_v114 (broadcastInDim S8x1x254 ![] bcast_S_S8x1x254 : (⟨S_, .f32⟩ : BufTy).Contents (Elt F) → (⟨S8x1x254, .f32⟩ : BufTy).Contents (Elt F)),
    StableHlo.binary main_v107 main_v114 main_v115 (cmpf .ogt : (⟨S8x1x254, .f32⟩ : BufTy).Contents (Elt F) → (⟨S8x1x254, .f32⟩ : BufTy).Contents (Elt F) → (⟨S8x1x254, .i1⟩ : BufTy).Contents (Elt F)),
    StableHlo.unary main_v115 main_v116 (broadcastInDim S8x254x254 ![0, 1, 2] bcast_S8x1x254_S8x254x254_0_1_2 : (⟨S8x1x254, .i1⟩ : BufTy).Contents (Elt F) → (⟨S8x254x254, .i1⟩ : BufTy).Contents (Elt F)),
    StableHlo.binary main_v113 main_v116 main_v117 (andi : (⟨S8x254x254, .i1⟩ : BufTy).Contents (Elt F) → (⟨S8x254x254, .i1⟩ : BufTy).Contents (Elt F) → (⟨S8x254x254, .i1⟩ : BufTy).Contents (Elt F)) ]

/-- The operations that compute the score of each pair of thresholds. -/
def segG : List (HloOp τ sig (Elt F)) :=
  [ StableHlo.nullary main_cst_15 (constant S_ .f32 0x322BCC77#32),
    StableHlo.unary main_cst_15 main_v118 (broadcastInDim S8x254x1 ![] bcast_S_S8x254x1 : (⟨S_, .f32⟩ : BufTy).Contents (Elt F) → (⟨S8x254x1, .f32⟩ : BufTy).Contents (Elt F)),
    StableHlo.binary main_v96 main_v118 main_v119 (addf : (⟨S8x254x1, .f32⟩ : BufTy).Contents (Elt F) → (⟨S8x254x1, .f32⟩ : BufTy).Contents (Elt F) → (⟨S8x254x1, .f32⟩ : BufTy).Contents (Elt F)),
    StableHlo.binary main_v100 main_v119 main_v120 (Host.divf : (⟨S8x254x1, .f32⟩ : BufTy).Contents (Elt F) → (⟨S8x254x1, .f32⟩ : BufTy).Contents (Elt F) → (⟨S8x254x1, .f32⟩ : BufTy).Contents (Elt F)),
    StableHlo.unary main_v102 main_v121 (broadcastInDim S8x254x254 ![0, 1, 2] bcast_S8x1x254_S8x254x254_0_1_2 : (⟨S8x1x254, .f32⟩ : BufTy).Contents (Elt F) → (⟨S8x254x254, .f32⟩ : BufTy).Contents (Elt F)),
    StableHlo.unary main_v100 main_v122 (broadcastInDim S8x254x254 ![0, 1, 2] bcast_S8x254x1_S8x254x254_0_1_2 : (⟨S8x254x1, .f32⟩ : BufTy).Contents (Elt F) → (⟨S8x254x254, .f32⟩ : BufTy).Contents (Elt F)),
    StableHlo.binary main_v121 main_v122 main_v123 (subf : (⟨S8x254x254, .f32⟩ : BufTy).Contents (Elt F) → (⟨S8x254x254, .f32⟩ : BufTy).Contents (Elt F) → (⟨S8x254x254, .f32⟩ : BufTy).Contents (Elt F)),
    StableHlo.nullary main_cst_16 (constant S_ .f32 0x322BCC77#32),
    StableHlo.unary main_cst_16 main_v124 (broadcastInDim S8x254x254 ![] bcast_S_S8x254x254 : (⟨S_, .f32⟩ : BufTy).Contents (Elt F) → (⟨S8x254x254, .f32⟩ : BufTy).Contents (Elt F)),
    StableHlo.binary main_v105 main_v124 main_v125 (addf : (⟨S8x254x254, .f32⟩ : BufTy).Contents (Elt F) → (⟨S8x254x254, .f32⟩ : BufTy).Contents (Elt F) → (⟨S8x254x254, .f32⟩ : BufTy).Contents (Elt F)),
    StableHlo.binary main_v123 main_v125 main_v126 (Host.divf : (⟨S8x254x254, .f32⟩ : BufTy).Contents (Elt F) → (⟨S8x254x254, .f32⟩ : BufTy).Contents (Elt F) → (⟨S8x254x254, .f32⟩ : BufTy).Contents (Elt F)),
    StableHlo.unary main_v94 main_v127 (broadcastInDim S8x1x1 ![0] bcast_S8_S8x1x1_0 : (⟨S8, .f32⟩ : BufTy).Contents (Elt F) → (⟨S8x1x1, .f32⟩ : BufTy).Contents (Elt F)),
    StableHlo.unary main_v127 main_v128 (broadcastInDim S8x1x254 ![0, 1, 2] bcast_S8x1x1_S8x1x254_0_1_2 : (⟨S8x1x1, .f32⟩ : BufTy).Contents (Elt F) → (⟨S8x1x254, .f32⟩ : BufTy).Contents (Elt F)),
    StableHlo.binary main_v128 main_v102 main_v129 (subf : (⟨S8x1x254, .f32⟩ : BufTy).Contents (Elt F) → (⟨S8x1x254, .f32⟩ : BufTy).Contents (Elt F) → (⟨S8x1x254, .f32⟩ : BufTy).Contents (Elt F)),
    StableHlo.nullary main_cst_17 (constant S_ .f32 0x322BCC77#32),
    StableHlo.unary main_cst_17 main_v130 (broadcastInDim S8x1x254 ![] bcast_S_S8x1x254 : (⟨S_, .f32⟩ : BufTy).Contents (Elt F) → (⟨S8x1x254, .f32⟩ : BufTy).Contents (Elt F)),
    StableHlo.binary main_v107 main_v130 main_v131 (addf : (⟨S8x1x254, .f32⟩ : BufTy).Contents (Elt F) → (⟨S8x1x254, .f32⟩ : BufTy).Contents (Elt F) → (⟨S8x1x254, .f32⟩ : BufTy).Contents (Elt F)),
    StableHlo.binary main_v129 main_v131 main_v132 (Host.divf : (⟨S8x1x254, .f32⟩ : BufTy).Contents (Elt F) → (⟨S8x1x254, .f32⟩ : BufTy).Contents (Elt F) → (⟨S8x1x254, .f32⟩ : BufTy).Contents (Elt F)),
    StableHlo.unary main_v94 main_v133 (broadcastInDim S8x1x1 ![0] bcast_S8_S8x1x1_0 : (⟨S8, .f32⟩ : BufTy).Contents (Elt F) → (⟨S8x1x1, .f32⟩ : BufTy).Contents (Elt F)),
    StableHlo.unary main_v133 main_v134 (broadcastInDim S8x254x1 ![0, 1, 2] bcast_S8x1x1_S8x254x1_0_1_2 : (⟨S8x1x1, .f32⟩ : BufTy).Contents (Elt F) → (⟨S8x254x1, .f32⟩ : BufTy).Contents (Elt F)),
    StableHlo.binary main_v120 main_v134 main_v135 (subf : (⟨S8x254x1, .f32⟩ : BufTy).Contents (Elt F) → (⟨S8x254x1, .f32⟩ : BufTy).Contents (Elt F) → (⟨S8x254x1, .f32⟩ : BufTy).Contents (Elt F)),
    StableHlo.binary main_v135 main_v135 main_v136 (mulf : (⟨S8x254x1, .f32⟩ : BufTy).Contents (Elt F) → (⟨S8x254x1, .f32⟩ : BufTy).Contents (Elt F) → (⟨S8x254x1, .f32⟩ : BufTy).Contents (Elt F)),
    StableHlo.binary main_v96 main_v136 main_v137 (mulf : (⟨S8x254x1, .f32⟩ : BufTy).Contents (Elt F) → (⟨S8x254x1, .f32⟩ : BufTy).Contents (Elt F) → (⟨S8x254x1, .f32⟩ : BufTy).Contents (Elt F)),
    StableHlo.unary main_v94 main_v138 (broadcastInDim S8x1x1 ![0] bcast_S8_S8x1x1_0 : (⟨S8, .f32⟩ : BufTy).Contents (Elt F) → (⟨S8x1x1, .f32⟩ : BufTy).Contents (Elt F)),
    StableHlo.unary main_v138 main_v139 (broadcastInDim S8x254x254 ![0, 1, 2] bcast_S8x1x1_S8x254x254_0_1_2 : (⟨S8x1x1, .f32⟩ : BufTy).Contents (Elt F) → (⟨S8x254x254, .f32⟩ : BufTy).Contents (Elt F)),
    StableHlo.binary main_v126 main_v139 main_v140 (subf : (⟨S8x254x254, .f32⟩ : BufTy).Contents (Elt F) → (⟨S8x254x254, .f32⟩ : BufTy).Contents (Elt F) → (⟨S8x254x254, .f32⟩ : BufTy).Contents (Elt F)),
    StableHlo.binary main_v140 main_v140 main_v141 (mulf : (⟨S8x254x254, .f32⟩ : BufTy).Contents (Elt F) → (⟨S8x254x254, .f32⟩ : BufTy).Contents (Elt F) → (⟨S8x254x254, .f32⟩ : BufTy).Contents (Elt F)),
    StableHlo.binary main_v105 main_v141 main_v142 (mulf : (⟨S8x254x254, .f32⟩ : BufTy).Contents (Elt F) → (⟨S8x254x254, .f32⟩ : BufTy).Contents (Elt F) → (⟨S8x254x254, .f32⟩ : BufTy).Contents (Elt F)),
    StableHlo.unary main_v137 main_v143 (broadcastInDim S8x254x254 ![0, 1, 2] bcast_S8x254x1_S8x254x254_0_1_2 : (⟨S8x254x1, .f32⟩ : BufTy).Contents (Elt F) → (⟨S8x254x254, .f32⟩ : BufTy).Contents (Elt F)),
    StableHlo.binary main_v143 main_v142 main_v144 (addf : (⟨S8x254x254, .f32⟩ : BufTy).Contents (Elt F) → (⟨S8x254x254, .f32⟩ : BufTy).Contents (Elt F) → (⟨S8x254x254, .f32⟩ : BufTy).Contents (Elt F)),
    StableHlo.unary main_v94 main_v145 (broadcastInDim S8x1x1 ![0] bcast_S8_S8x1x1_0 : (⟨S8, .f32⟩ : BufTy).Contents (Elt F) → (⟨S8x1x1, .f32⟩ : BufTy).Contents (Elt F)),
    StableHlo.unary main_v145 main_v146 (broadcastInDim S8x1x254 ![0, 1, 2] bcast_S8x1x1_S8x1x254_0_1_2 : (⟨S8x1x1, .f32⟩ : BufTy).Contents (Elt F) → (⟨S8x1x254, .f32⟩ : BufTy).Contents (Elt F)),
    StableHlo.binary main_v132 main_v146 main_v147 (subf : (⟨S8x1x254, .f32⟩ : BufTy).Contents (Elt F) → (⟨S8x1x254, .f32⟩ : BufTy).Contents (Elt F) → (⟨S8x1x254, .f32⟩ : BufTy).Contents (Elt F)),
    StableHlo.binary main_v147 main_v147 main_v148 (mulf : (⟨S8x1x254, .f32⟩ : BufTy).Contents (Elt F) → (⟨S8x1x254, .f32⟩ : BufTy).Contents (Elt F) → (⟨S8x1x254, .f32⟩ : BufTy).Contents (Elt F)),
    StableHlo.binary main_v107 main_v148 main_v149 (mulf : (⟨S8x1x254, .f32⟩ : BufTy).Contents (Elt F) → (⟨S8x1x254, .f32⟩ : BufTy).Contents (Elt F) → (⟨S8x1x254, .f32⟩ : BufTy).Contents (Elt F)),
    StableHlo.unary main_v149 main_v150 (broadcastInDim S8x254x254 ![0, 1, 2] bcast_S8x1x254_S8x254x254_0_1_2 : (⟨S8x1x254, .f32⟩ : BufTy).Contents (Elt F) → (⟨S8x254x254, .f32⟩ : BufTy).Contents (Elt F)),
    StableHlo.binary main_v144 main_v150 main_v151 (addf : (⟨S8x254x254, .f32⟩ : BufTy).Contents (Elt F) → (⟨S8x254x254, .f32⟩ : BufTy).Contents (Elt F) → (⟨S8x254x254, .f32⟩ : BufTy).Contents (Elt F)),
    StableHlo.nullary main_cst_18 (constant S_ .f32 0x00000000#32),
    StableHlo.unary main_cst_18 main_call4_v0 (id : (⟨S_, .f32⟩ : BufTy).Contents (Elt F) → (⟨S_, .f32⟩ : BufTy).Contents (Elt F)),
    StableHlo.unary main_call4_v0 main_call4_v1 ((broadcastInDim S254x254 ![] bcast_S_S254x254) : (⟨S_, .f32⟩ : BufTy).Contents (Elt F) → (⟨S254x254, .f32⟩ : BufTy).Contents (Elt F)),
    StableHlo.unary main_call4_v1 main_call4_v2 ((broadcastInDim S8x254x254 ![1, 2] bcast_S254x254_S8x254x254_1_2) : (⟨S254x254, .f32⟩ : BufTy).Contents (Elt F) → (⟨S8x254x254, .f32⟩ : BufTy).Contents (Elt F)),
    StableHlo.ternary main_v117 main_v151 main_call4_v2 main_v152 (select : (⟨S8x254x254, .i1⟩ : BufTy).Contents (Elt F) → (⟨S8x254x254, .f32⟩ : BufTy).Contents (Elt F) → (⟨S8x254x254, .f32⟩ : BufTy).Contents (Elt F) → (⟨S8x254x254, .f32⟩ : BufTy).Contents (Elt F)),
    StableHlo.reshape main_v152 main_v153 (rfl : (.f32 : EltTy) = .f32) shapeCasts_S8x254x254_S8x64516 ]

/-- The operations that compute the position of the best score. -/
def segH : List (HloOp τ sig (Elt F)) :=
  [ StableHlo.nullary main_call5_v0 (iotaInDim S8x64516 32 1),
    StableHlo.nullary main_call5_cst (constant S_ .f32 0xFF800000#32),
    StableHlo.nullary main_call5_c (constantI S_ 32 0#32),
    StableHlo.quaternary main_v153 main_call5_v0 main_call5_cst main_call5_c main_call5_v1_0 ((fun x y u v j => (Host.argReduce reducer_argmax_f32_i32 x y u v reducesTo_S8x64516_S8_d1 h_S_ j).1) : (⟨S8x64516, .f32⟩ : BufTy).Contents (Elt F) → (⟨S8x64516, .i32⟩ : BufTy).Contents (Elt F) → (⟨S_, .f32⟩ : BufTy).Contents (Elt F) → (⟨S_, .i32⟩ : BufTy).Contents (Elt F) → (⟨S8, .f32⟩ : BufTy).Contents (Elt F)),
    StableHlo.quaternary main_v153 main_call5_v0 main_call5_cst main_call5_c main_v154 ((fun x y u v j => (Host.argReduce reducer_argmax_f32_i32 x y u v reducesTo_S8x64516_S8_d1 h_S_ j).2) : (⟨S8x64516, .f32⟩ : BufTy).Contents (Elt F) → (⟨S8x64516, .i32⟩ : BufTy).Contents (Elt F) → (⟨S_, .f32⟩ : BufTy).Contents (Elt F) → (⟨S_, .i32⟩ : BufTy).Contents (Elt F) → (⟨S8, .i32⟩ : BufTy).Contents (Elt F)) ]

/-- The operations that compute the two thresholds. -/
def segI : List (HloOp τ sig (Elt F)) :=
  [ StableHlo.nullary main_c_19 (constantI S_ 32 254#32),
    StableHlo.unary main_c_19 main_v155 (broadcastInDim S8 ![] bcast_S_S8 : (⟨S_, .i32⟩ : BufTy).Contents (Elt F) → (⟨S8, .i32⟩ : BufTy).Contents (Elt F)),
    StableHlo.binary main_v154 main_v155 main_v156 (Host.divsi : (⟨S8, .i32⟩ : BufTy).Contents (Elt F) → (⟨S8, .i32⟩ : BufTy).Contents (Elt F) → (⟨S8, .i32⟩ : BufTy).Contents (Elt F)),
    StableHlo.nullary main_c_20 (constantI S_ 32 1#32),
    StableHlo.unary main_c_20 main_v157 (broadcastInDim S8 ![] bcast_S_S8 : (⟨S_, .i32⟩ : BufTy).Contents (Elt F) → (⟨S8, .i32⟩ : BufTy).Contents (Elt F)),
    StableHlo.binary main_v157 main_v156 main_v158 (addi : (⟨S8, .i32⟩ : BufTy).Contents (Elt F) → (⟨S8, .i32⟩ : BufTy).Contents (Elt F) → (⟨S8, .i32⟩ : BufTy).Contents (Elt F)),
    StableHlo.nullary main_c_21 (constantI S_ 32 254#32),
    StableHlo.unary main_c_21 main_v159 (broadcastInDim S8 ![] bcast_S_S8 : (⟨S_, .i32⟩ : BufTy).Contents (Elt F) → (⟨S8, .i32⟩ : BufTy).Contents (Elt F)),
    StableHlo.binary main_v154 main_v159 main_v160 (Host.remsi : (⟨S8, .i32⟩ : BufTy).Contents (Elt F) → (⟨S8, .i32⟩ : BufTy).Contents (Elt F) → (⟨S8, .i32⟩ : BufTy).Contents (Elt F)),
    StableHlo.nullary main_c_22 (constantI S_ 32 1#32),
    StableHlo.unary main_c_22 main_v161 (broadcastInDim S8 ![] bcast_S_S8 : (⟨S_, .i32⟩ : BufTy).Contents (Elt F) → (⟨S8, .i32⟩ : BufTy).Contents (Elt F)),
    StableHlo.binary main_v161 main_v160 main_v162 (addi : (⟨S8, .i32⟩ : BufTy).Contents (Elt F) → (⟨S8, .i32⟩ : BufTy).Contents (Elt F) → (⟨S8, .i32⟩ : BufTy).Contents (Elt F)),
    StableHlo.unary main_v158 main_v163 (sitofp .f32 : (⟨S8, .i32⟩ : BufTy).Contents (Elt F) → (⟨S8, .f32⟩ : BufTy).Contents (Elt F)),
    StableHlo.nullary main_cst_23 (constant S_ .f32 0x437F0000#32),
    StableHlo.unary main_cst_23 main_v164 (broadcastInDim S8 ![] bcast_S_S8 : (⟨S_, .f32⟩ : BufTy).Contents (Elt F) → (⟨S8, .f32⟩ : BufTy).Contents (Elt F)),
    StableHlo.binary main_v163 main_v164 main_v165 (Host.divf : (⟨S8, .f32⟩ : BufTy).Contents (Elt F) → (⟨S8, .f32⟩ : BufTy).Contents (Elt F) → (⟨S8, .f32⟩ : BufTy).Contents (Elt F)),
    StableHlo.unary main_v162 main_v166 (sitofp .f32 : (⟨S8, .i32⟩ : BufTy).Contents (Elt F) → (⟨S8, .f32⟩ : BufTy).Contents (Elt F)),
    StableHlo.nullary main_cst_24 (constant S_ .f32 0x437F0000#32),
    StableHlo.unary main_cst_24 main_v167 (broadcastInDim S8 ![] bcast_S_S8 : (⟨S_, .f32⟩ : BufTy).Contents (Elt F) → (⟨S8, .f32⟩ : BufTy).Contents (Elt F)),
    StableHlo.binary main_v166 main_v167 main_v168 (Host.divf : (⟨S8, .f32⟩ : BufTy).Contents (Elt F) → (⟨S8, .f32⟩ : BufTy).Contents (Elt F) → (⟨S8, .f32⟩ : BufTy).Contents (Elt F)) ]

/-- The operations that compute the loss from the thresholds. -/
def segJ : List (HloOp τ sig (Elt F)) :=
  [ StableHlo.unary main_v165 main_v169 (broadcastInDim S8x1x1x1 ![0] bcast_S8_S8x1x1x1_0 : (⟨S8, .f32⟩ : BufTy).Contents (Elt F) → (⟨S8x1x1x1, .f32⟩ : BufTy).Contents (Elt F)),
    StableHlo.unary main_v168 main_v170 (broadcastInDim S8x1x1x1 ![0] bcast_S8_S8x1x1x1_0 : (⟨S8, .f32⟩ : BufTy).Contents (Elt F) → (⟨S8x1x1x1, .f32⟩ : BufTy).Contents (Elt F)),
    StableHlo.unary main_v170 main_v171 (broadcastInDim S8x1x512x512 ![0, 1, 2, 3] bcast_S8x1x1x1_S8x1x512x512_0_1_2_3 : (⟨S8x1x1x1, .f32⟩ : BufTy).Contents (Elt F) → (⟨S8x1x512x512, .f32⟩ : BufTy).Contents (Elt F)),
    StableHlo.binary main_v55 main_v171 main_v172 (cmpf .oge : (⟨S8x1x512x512, .f32⟩ : BufTy).Contents (Elt F) → (⟨S8x1x512x512, .f32⟩ : BufTy).Contents (Elt F) → (⟨S8x1x512x512, .i1⟩ : BufTy).Contents (Elt F)),
    StableHlo.unary main_v169 main_v173 (broadcastInDim S8x1x512x512 ![0, 1, 2, 3] bcast_S8x1x1x1_S8x1x512x512_0_1_2_3 : (⟨S8x1x1x1, .f32⟩ : BufTy).Contents (Elt F) → (⟨S8x1x512x512, .f32⟩ : BufTy).Contents (Elt F)),
    StableHlo.binary main_v55 main_v173 main_v174 (cmpf .oge : (⟨S8x1x512x512, .f32⟩ : BufTy).Contents (Elt F) → (⟨S8x1x512x512, .f32⟩ : BufTy).Contents (Elt F) → (⟨S8x1x512x512, .i1⟩ : BufTy).Contents (Elt F)),
    StableHlo.unary main_v170 main_v175 (broadcastInDim S8x1x512x512 ![0, 1, 2, 3] bcast_S8x1x1x1_S8x1x512x512_0_1_2_3 : (⟨S8x1x1x1, .f32⟩ : BufTy).Contents (Elt F) → (⟨S8x1x512x512, .f32⟩ : BufTy).Contents (Elt F)),
    StableHlo.binary main_v55 main_v175 main_v176 (cmpf .olt : (⟨S8x1x512x512, .f32⟩ : BufTy).Contents (Elt F) → (⟨S8x1x512x512, .f32⟩ : BufTy).Contents (Elt F) → (⟨S8x1x512x512, .i1⟩ : BufTy).Contents (Elt F)),
    StableHlo.binary main_v174 main_v176 main_v177 (andi : (⟨S8x1x512x512, .i1⟩ : BufTy).Contents (Elt F) → (⟨S8x1x512x512, .i1⟩ : BufTy).Contents (Elt F) → (⟨S8x1x512x512, .i1⟩ : BufTy).Contents (Elt F)),
    StableHlo.nullary main_cst_25 (constant S_ .f32 0x3F000000#32),
    StableHlo.nullary main_cst_26 (constant S_ .f32 0x00000000#32),
    StableHlo.unary main_cst_25 main_call6_v0 ((broadcastInDim S8x1x512x512 ![] bcast_S_S8x1x512x512) : (⟨S_, .f32⟩ : BufTy).Contents (Elt F) → (⟨S8x1x512x512, .f32⟩ : BufTy).Contents (Elt F)),
    StableHlo.unary main_cst_26 main_call6_v1 ((broadcastInDim S8x1x512x512 ![] bcast_S_S8x1x512x512) : (⟨S_, .f32⟩ : BufTy).Contents (Elt F) → (⟨S8x1x512x512, .f32⟩ : BufTy).Contents (Elt F)),
    StableHlo.ternary main_v177 main_call6_v0 main_call6_v1 main_v178 (select : (⟨S8x1x512x512, .i1⟩ : BufTy).Contents (Elt F) → (⟨S8x1x512x512, .f32⟩ : BufTy).Contents (Elt F) → (⟨S8x1x512x512, .f32⟩ : BufTy).Contents (Elt F) → (⟨S8x1x512x512, .f32⟩ : BufTy).Contents (Elt F)),
    StableHlo.nullary main_cst_27 (constant S_ .f32 0x3F800000#32),
    StableHlo.unary main_cst_27 main_call7_v0 ((broadcastInDim S8x1x512x512 ![] bcast_S_S8x1x512x512) : (⟨S_, .f32⟩ : BufTy).Contents (Elt F) → (⟨S8x1x512x512, .f32⟩ : BufTy).Contents (Elt F)),
    StableHlo.ternary main_v172 main_call7_v0 main_v178 main_v179 (select : (⟨S8x1x512x512, .i1⟩ : BufTy).Contents (Elt F) → (⟨S8x1x512x512, .f32⟩ : BufTy).Contents (Elt F) → (⟨S8x1x512x512, .f32⟩ : BufTy).Contents (Elt F) → (⟨S8x1x512x512, .f32⟩ : BufTy).Contents (Elt F)),
    StableHlo.unary main_v179 main_v180 (id : (⟨S8x1x512x512, .f32⟩ : BufTy).Contents (Elt F) → (⟨S8x1x512x512, .f32⟩ : BufTy).Contents (Elt F)),
    StableHlo.binary main_v180 main_v56 main_v181 (subf : (⟨S8x1x512x512, .f32⟩ : BufTy).Contents (Elt F) → (⟨S8x1x512x512, .f32⟩ : BufTy).Contents (Elt F) → (⟨S8x1x512x512, .f32⟩ : BufTy).Contents (Elt F)),
    StableHlo.binary main_v181 main_v181 main_v182 (mulf : (⟨S8x1x512x512, .f32⟩ : BufTy).Contents (Elt F) → (⟨S8x1x512x512, .f32⟩ : BufTy).Contents (Elt F) → (⟨S8x1x512x512, .f32⟩ : BufTy).Contents (Elt F)),
    StableHlo.nullary main_cst_28 (constant S_ .f32 0x00000000#32),
    StableHlo.binary main_v182 main_cst_28 main_v183 ((fun x v => Host.reduceAdd x v reducesTo_S8x1x512x512_S8x1_d2_3 h_S_) : (⟨S8x1x512x512, .f32⟩ : BufTy).Contents (Elt F) → (⟨S_, .f32⟩ : BufTy).Contents (Elt F) → (⟨S8x1, .f32⟩ : BufTy).Contents (Elt F)),
    StableHlo.nullary main_cst_29 (constant S_ .f32 0x00000000#32),
    StableHlo.binary main_v54 main_cst_29 main_v184 ((fun x v => Host.reduceAdd x v reducesTo_S8x1x512x512_S8x1_d2_3 h_S_) : (⟨S8x1x512x512, .f32⟩ : BufTy).Contents (Elt F) → (⟨S_, .f32⟩ : BufTy).Contents (Elt F) → (⟨S8x1, .f32⟩ : BufTy).Contents (Elt F)),
    StableHlo.nullary main_cst_30 (constant S_ .f32 0x322BCC77#32),
    StableHlo.unary main_cst_30 main_v185 (broadcastInDim S8x1 ![] bcast_S_S8x1 : (⟨S_, .f32⟩ : BufTy).Contents (Elt F) → (⟨S8x1, .f32⟩ : BufTy).Contents (Elt F)),
    StableHlo.binary main_v184 main_v185 main_v186 (addf : (⟨S8x1, .f32⟩ : BufTy).Contents (Elt F) → (⟨S8x1, .f32⟩ : BufTy).Contents (Elt F) → (⟨S8x1, .f32⟩ : BufTy).Contents (Elt F)),
    StableHlo.nullary main_cst_31 (constant S_ .f32 0x322BCC77#32),
    StableHlo.unary main_cst_31 main_v187 (broadcastInDim S8x1 ![] bcast_S_S8x1 : (⟨S_, .f32⟩ : BufTy).Contents (Elt F) → (⟨S8x1, .f32⟩ : BufTy).Contents (Elt F)),
    StableHlo.binary main_v186 main_v187 main_v188 (cmpf .ogt : (⟨S8x1, .f32⟩ : BufTy).Contents (Elt F) → (⟨S8x1, .f32⟩ : BufTy).Contents (Elt F) → (⟨S8x1, .i1⟩ : BufTy).Contents (Elt F)),
    StableHlo.binary main_v183 main_v186 main_v189 (Host.divf : (⟨S8x1, .f32⟩ : BufTy).Contents (Elt F) → (⟨S8x1, .f32⟩ : BufTy).Contents (Elt F) → (⟨S8x1, .f32⟩ : BufTy).Contents (Elt F)),
    StableHlo.unary main_v188 main_v190 (uitofp .f32 : (⟨S8x1, .i1⟩ : BufTy).Contents (Elt F) → (⟨S8x1, .f32⟩ : BufTy).Contents (Elt F)),
    StableHlo.nullary main_cst_32 (constant S_ .f32 0x00000000#32),
    StableHlo.binary main_v190 main_cst_32 main_v191 ((fun x v => Host.reduceAdd x v reducesTo_S8x1_S_d0_1 h_S_) : (⟨S8x1, .f32⟩ : BufTy).Contents (Elt F) → (⟨S_, .f32⟩ : BufTy).Contents (Elt F) → (⟨S_, .f32⟩ : BufTy).Contents (Elt F)),
    StableHlo.nullary main_cst_33 (constant S_ .f32 0x3F800000#32),
    StableHlo.binary main_v191 main_cst_33 main_v192 (maximumf : (⟨S_, .f32⟩ : BufTy).Contents (Elt F) → (⟨S_, .f32⟩ : BufTy).Contents (Elt F) → (⟨S_, .f32⟩ : BufTy).Contents (Elt F)),
    StableHlo.nullary main_cst_34 (constant S_ .f32 0x00000000#32),
    StableHlo.unary main_cst_34 main_call8_v0 (id : (⟨S_, .f32⟩ : BufTy).Contents (Elt F) → (⟨S_, .f32⟩ : BufTy).Contents (Elt F)),
    StableHlo.unary main_call8_v0 main_call8_v1 ((broadcastInDim S8x1 ![] bcast_S_S8x1) : (⟨S_, .f32⟩ : BufTy).Contents (Elt F) → (⟨S8x1, .f32⟩ : BufTy).Contents (Elt F)),
    StableHlo.ternary main_v188 main_v189 main_call8_v1 main_v193 (select : (⟨S8x1, .i1⟩ : BufTy).Contents (Elt F) → (⟨S8x1, .f32⟩ : BufTy).Contents (Elt F) → (⟨S8x1, .f32⟩ : BufTy).Contents (Elt F) → (⟨S8x1, .f32⟩ : BufTy).Contents (Elt F)),
    StableHlo.nullary main_cst_35 (constant S_ .f32 0x00000000#32),
    StableHlo.binary main_v193 main_cst_35 main_v194 ((fun x v => Host.reduceAdd x v reducesTo_S8x1_S_d0_1 h_S_) : (⟨S8x1, .f32⟩ : BufTy).Contents (Elt F) → (⟨S_, .f32⟩ : BufTy).Contents (Elt F) → (⟨S_, .f32⟩ : BufTy).Contents (Elt F)),
    StableHlo.binary main_v194 main_v192 main_v195 (Host.divf : (⟨S_, .f32⟩ : BufTy).Contents (Elt F) → (⟨S_, .f32⟩ : BufTy).Contents (Elt F) → (⟨S_, .f32⟩ : BufTy).Contents (Elt F)) ]

/-- The whole program's operations. -/
def ops : List (HloOp τ sig (Elt F)) :=
  segA ++ (segB ++ (segC ++ (segD ++ (segE ++ (segF ++ (segG ++ (segH ++ (segI ++ (segJ

)))))))))theorem main_isSeq (d : Dev nD) : StableHlo.IsSeq (main (F := F) d) ops := rfl

end Own

end Cert.ReferenceIdeal

end
-- ==== Proof.RefRun.lean ====
module

public import proofs.«01_k».proof.Proof.RefOps

/-! The reference's run: it ends with every buffer as its operations leave it, the arguments as they were. -/

@[expose] public section

set_option maxRecDepth 16384

noncomputable section

namespace Cert.ReferenceIdeal

open Idealize.ShloMosaic Idealize.SL.Sem

namespace Own

variable {F : FTy → Type} [FloatOps F]

/-- Every operation works on the TensorCore's own buffers only. -/
theorem ops_bufs : (ops : List (HloOp τ sig (Elt F))).Forall fun op => op.bufs ⊆ StableHlo.tcRefs τ sig := by
  simp only [ops, segA, segB, segC, segD, segE, segF, segG, segH, segI, segJ, List.cons_append, List.nil_append]
  simp

/-- No operation leaves a buffer undetermined. -/
theorem ops_fresh : ∀ op ∈ (ops : List (HloOp τ sig (Elt F))), op.fresh = ∅ := by
  intro op h
  simp only [ops, segA, segB, segC, segD, segE, segF, segG, segH, segI, segJ, List.cons_append, List.nil_append] at h
  repeat (cases h with | head => rfl | tail _ h => ?_)
  exact nomatch h

/-- The operations in stages. -/
theorem after_ops (V : Valuation τ sig (Elt F)) :
    StableHlo.after ops V = StableHlo.after segJ (StableHlo.after segI (StableHlo.after segH (StableHlo.after segG (StableHlo.after segF (StableHlo.after segE (StableHlo.after segD (StableHlo.after segC (StableHlo.after segB (StableHlo.after segA V))))))))) := by
  simp only [ops, StableHlo.after_append]

theorem arg_segA (V : Valuation τ sig (Elt F)) :
    StableHlo.after segA V (Proc.devRef .tc main_arg0) = V (Proc.devRef .tc main_arg0) ∧ StableHlo.after segA V (Proc.devRef .tc main_arg1) = V (Proc.devRef .tc main_arg1)
      ∧ StableHlo.after segA V (Proc.devRef .tc main_arg2) = V (Proc.devRef .tc main_arg2) := by refine ⟨?_, ?_, ?_⟩ <;> after_reads_simp
theorem arg_segB (V : Valuation τ sig (Elt F)) :
    StableHlo.after segB V (Proc.devRef .tc main_arg0) = V (Proc.devRef .tc main_arg0) ∧ StableHlo.after segB V (Proc.devRef .tc main_arg1) = V (Proc.devRef .tc main_arg1)
      ∧ StableHlo.after segB V (Proc.devRef .tc main_arg2) = V (Proc.devRef .tc main_arg2) := by refine ⟨?_, ?_, ?_⟩ <;> after_reads_simp
theorem arg_segC (V : Valuation τ sig (Elt F)) :
    StableHlo.after segC V (Proc.devRef .tc main_arg0) = V (Proc.devRef .tc main_arg0) ∧ StableHlo.after segC V (Proc.devRef .tc main_arg1) = V (Proc.devRef .tc main_arg1)
      ∧ StableHlo.after segC V (Proc.devRef .tc main_arg2) = V (Proc.devRef .tc main_arg2) := by refine ⟨?_, ?_, ?_⟩ <;> after_reads_simp
theorem arg_segD (V : Valuation τ sig (Elt F)) :
    StableHlo.after segD V (Proc.devRef .tc main_arg0) = V (Proc.devRef .tc main_arg0) ∧ StableHlo.after segD V (Proc.devRef .tc main_arg1) = V (Proc.devRef .tc main_arg1)
      ∧ StableHlo.after segD V (Proc.devRef .tc main_arg2) = V (Proc.devRef .tc main_arg2) := by refine ⟨?_, ?_, ?_⟩ <;> after_reads_simp
theorem arg_segE (V : Valuation τ sig (Elt F)) :
    StableHlo.after segE V (Proc.devRef .tc main_arg0) = V (Proc.devRef .tc main_arg0) ∧ StableHlo.after segE V (Proc.devRef .tc main_arg1) = V (Proc.devRef .tc main_arg1)
      ∧ StableHlo.after segE V (Proc.devRef .tc main_arg2) = V (Proc.devRef .tc main_arg2) := by refine ⟨?_, ?_, ?_⟩ <;> after_reads_simp
theorem arg_segF (V : Valuation τ sig (Elt F)) :
    StableHlo.after segF V (Proc.devRef .tc main_arg0) = V (Proc.devRef .tc main_arg0) ∧ StableHlo.after segF V (Proc.devRef .tc main_arg1) = V (Proc.devRef .tc main_arg1)
      ∧ StableHlo.after segF V (Proc.devRef .tc main_arg2) = V (Proc.devRef .tc main_arg2) := by refine ⟨?_, ?_, ?_⟩ <;> after_reads_simp
theorem arg_segG (V : Valuation τ sig (Elt F)) :
    StableHlo.after segG V (Proc.devRef .tc main_arg0) = V (Proc.devRef .tc main_arg0) ∧ StableHlo.after segG V (Proc.devRef .tc main_arg1) = V (Proc.devRef .tc main_arg1)
      ∧ StableHlo.after segG V (Proc.devRef .tc main_arg2) = V (Proc.devRef .tc main_arg2) := by refine ⟨?_, ?_, ?_⟩ <;> after_reads_simp
theorem arg_segH (V : Valuation τ sig (Elt F)) :
    StableHlo.after segH V (Proc.devRef .tc main_arg0) = V (Proc.devRef .tc main_arg0) ∧ StableHlo.after segH V (Proc.devRef .tc main_arg1) = V (Proc.devRef .tc main_arg1)
      ∧ StableHlo.after segH V (Proc.devRef .tc main_arg2) = V (Proc.devRef .tc main_arg2) := by refine ⟨?_, ?_, ?_⟩ <;> after_reads_simp
theorem arg_segI (V : Valuation τ sig (Elt F)) :
    StableHlo.after segI V (Proc.devRef .tc main_arg0) = V (Proc.devRef .tc main_arg0) ∧ StableHlo.after segI V (Proc.devRef .tc main_arg1) = V (Proc.devRef .tc main_arg1)
      ∧ StableHlo.after segI V (Proc.devRef .tc main_arg2) = V (Proc.devRef .tc main_arg2) := by refine ⟨?_, ?_, ?_⟩ <;> after_reads_simp

theorem arg_segJ (V : Valuation τ sig (Elt F)) :
    StableHlo.after segJ V (Proc.devRef .tc main_arg0) = V (Proc.devRef .tc main_arg0) ∧ StableHlo.after segJ V (Proc.devRef .tc main_arg1) = V (Proc.devRef .tc main_arg1)
      ∧ StableHlo.after segJ V (Proc.devRef .tc main_arg2) = V (Proc.devRef .tc main_arg2) := by refine ⟨?_, ?_, ?_⟩ <;> after_reads_simp

/-- The whole line leaves the three arguments as they were. -/
theorem arg_ops (V : Valuation τ sig (Elt F)) :
    StableHlo.after ops V (Proc.devRef .tc main_arg0) = V (Proc.devRef .tc main_arg0) ∧ StableHlo.after ops V (Proc.devRef .tc main_arg1) = V (Proc.devRef .tc main_arg1)
      ∧ StableHlo.after ops V (Proc.devRef .tc main_arg2) = V (Proc.devRef .tc main_arg2) := by
  rw [after_ops]
  exact ⟨((arg_segJ _).1.trans ((arg_segI _).1.trans ((arg_segH _).1.trans ((arg_segG _).1.trans ((arg_segF _).1.trans ((arg_segE _).1.trans ((arg_segD _).1.trans ((arg_segC _).1.trans ((arg_segB _).1.trans (arg_segA _).1))))))))),
    ((arg_segJ _).2.1.trans ((arg_segI _).2.1.trans ((arg_segH _).2.1.trans ((arg_segG _).2.1.trans ((arg_segF _).2.1.trans ((arg_segE _).2.1.trans ((arg_segD _).2.1.trans ((arg_segC _).2.1.trans ((arg_segB _).2.1.trans (arg_segA _).2.1))))))))),
    ((arg_segJ _).2.2.trans ((arg_segI _).2.2.trans ((arg_segH _).2.2.trans ((arg_segG _).2.2.trans ((arg_segF _).2.2.trans ((arg_segE _).2.2.trans ((arg_segD _).2.2.trans ((arg_segC _).2.2.trans ((arg_segB _).2.2.trans (arg_segA _).2.2)))))))))⟩

/-- The reference runs; the result is what its operations leave there, the arguments are unchanged and every semaphore reads zero. -/
theorem run (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_v195) = StableHlo.after ops (StableHlo.launchContents m c) (Proc.devRef .tc main_v195)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_mono (StableHlo.run_hlo defs main main_isSeq (by decide) (by decide) ops_bufs ops_fresh m ρ) fun r h =>
    ⟨fun c => ⟨h c main_v195, (h c main_arg0).trans (arg_ops _).1, (h c main_arg1).trans (arg_ops _).2.1,
      (h c main_arg2).trans (arg_ops _).2.2⟩, Idealize.ShloMosaic.sem_eq_zero_of_no_sems (by decide) r.2⟩

end Own

end Cert.ReferenceIdeal

end
-- ==== Proof.Spec.lean ====
module

public import Idealize.ShloMosaic.Lib.Pointwise

/-! What both programs compute, written once over plain functions into the extended reals: the dilated mask, the
    histogram of the masked pixels, the score of a pair of thresholds, the pair that is picked, and the loss. -/

@[expose] public section

noncomputable section

namespace Cert.Otsu

open Idealize.ShloMosaic

/-- One image plane. -/
abbrev Im := Fin 512 → Fin 512 → EReal

/-- Two row (or column) numbers at most two apart. -/
def near (a b : Fin 512) : Prop := a.val ≤ b.val + 2 ∧ b.val ≤ a.val + 2

/-- Some label in the 5×5 window around the pixel is positive. -/
def hit (lab : Im) (r c : Fin 512) : Prop := ∃ r' c', near r r' ∧ near c c' ∧ 0 < lab r' c'

open Classical in
/-- The dilated mask: one where the window holds a positive label, zero elsewhere. -/
def on (lab : Im) : Im := fun r c => if hit lab r c then 1 else 0

/-- The constant 255 of both programs. -/
abbrev top255 : EReal := Ideal.ofBits .f32 1132396544#32
/-- The constant 256/255 (rounded) of both programs. -/
abbrev spread : EReal := Ideal.ofBits .f32 1065386113#32
/-- The small constant added to every divisor. -/
abbrev eps : EReal := Ideal.ofBits .f32 841731191#32

/-- A number truncated to an integer and clipped to 0 … 255. -/
def level (y : EReal) : BitVec 32 := IntOp.minsi 255#32 (IntOp.maxsi 0#32 (Ideal.fptosi 32 y))

/-- The histogram bin of a pixel. -/
def bin (img lab : Im) (r c : Fin 512) : BitVec 32 := level (img r c * on lab r c * top255 * spread)

/-- The histogram of the masked pixels. -/
def hist (img lab : Im) (b : ℕ) : EReal := ∑ r, ∑ c, if bin img lab r c = BitVec.ofNat 32 b then on lab r c else 0

/-- One class's part of the score. -/
def part (w m t : EReal) : EReal := w * ((m - t) * (m - t))

/-- The score of cutting after level `i` and after level `j`, from the cumulative mass, the cumulative mean and the total mean. -/
def between (ch cm : ℕ → EReal) (tm : EReal) (i j : ℕ) : EReal :=
  part (ch i) (Ideal.div (cm i) (ch i + eps)) tm
    + part (ch j - ch i) (Ideal.div (cm j - cm i) (ch j - ch i + eps)) tm
    + part (1 - ch j) (Ideal.div (tm - cm j) (1 - ch j + eps)) tm

/-- All three classes hold some mass. -/
def admissible (ch : ℕ → EReal) (i j : ℕ) : Prop := 0 < ch i ∧ 0 < ch j - ch i ∧ 0 < 1 - ch j

open Classical in
/-- The score, zero where some class is empty. -/
def score (ch cm : ℕ → EReal) (tm : EReal) (i j : ℕ) : EReal :=
  if admissible ch i j then between ch cm tm i j else 0

/-- `(i, j)` has the greatest score, and is the first that has it in row-major order. -/
structure IsPick (s : ℕ → ℕ → EReal) (i j : ℕ) : Prop where
  hi : i < 254
  hj : j < 254
  best : ∀ a b, a < 254 → b < 254 → s a b ≤ s i j
  first : ∀ a b, a < 254 → b < 254 → s a b = s i j → i * 254 + j ≤ a * 254 + b

/-- There is at most one such pair. -/
theorem IsPick.unique {s : ℕ → ℕ → EReal} {i j i' j' : ℕ} (h : IsPick s i j) (h' : IsPick s i' j') : i = i' ∧ j = j' := by
  have e : s i' j' = s i j := le_antisymm (h.best _ _ h'.hi h'.hj) (h'.best _ _ h.hi h.hj)
  have a := h.first _ _ h'.hi h'.hj e
  have b := h'.first _ _ h.hi h.hj e.symm
  have := h.hj; have := h'.hj
  constructor <;> omega

/-- The picked pair is ordered, when the cumulative mass does not decrease. -/
theorem IsPick.le {ch cm : ℕ → EReal} {tm : EReal} {i j : ℕ} (h : IsPick (score ch cm tm) i j)
    (hmono : ∀ a b, a ≤ b → ¬ 0 < ch a - ch b) : i ≤ j := by
  by_contra hlt
  have hz : score ch cm tm i j = 0 := if_neg fun ha => hmono j i (by omega) ha.2.1
  have h0 : score ch cm tm 0 0 = 0 := if_neg fun ha => hmono 0 0 le_rfl ha.2.1
  have := h.first 0 0 (by norm_num) (by norm_num) (h0.trans hz.symm)
  omega

/-- The grade of a pixel: 1 from the upper threshold on, 1/2 from the lower one on, 0 below. -/
def grade (x : EReal) (i j : ℕ) : EReal :=
  if (((j + 1 : ℕ) / 255 : ℝ) : EReal) ≤ x then 1 else if (((i + 1 : ℕ) / 255 : ℝ) : EReal) ≤ x then ((1 / 2 : ℝ) : EReal) else 0

/-- The sum of the squared differences between the grades and the masked predictions. -/
def sqDiff (pred img lab : Im) (i j : ℕ) : EReal :=
  ∑ r, ∑ c, (grade (img r c * on lab r c) i j - pred r c * on lab r c) * (grade (img r c * on lab r c) i j - pred r c * on lab r c)

/-- How many pixels the mask holds. -/
def area (lab : Im) : EReal := ∑ r, ∑ c, on lab r c

theorem pos_dite {p : Prop} [Decidable p] {f : p → EReal} : (0 < if h : p then f h else 0) ↔ ∃ h, 0 < f h := by
  by_cases h : p <;> simp [h]

theorem pos_dite' {p : Prop} [Decidable p] {f : ¬p → EReal} : (0 < if h : p then 0 else f h) ↔ ∃ h, 0 < f h := by
  by_cases h : p <;> simp [h]

/-- A truth value turned into a word and then into a number is one or zero. -/
theorem flag_val (b : Bool) :
    (FloatOps.sitofp FTy.f32 (BitVec.setWidth 32 (BitVec.ofBool b)) : Ideal .f32) = if b then 1 else 0 := by
  show ((((BitVec.setWidth 32 (BitVec.ofBool b)).toInt : ℤ) : ℝ) : EReal) = _
  cases b <;> simp

/-- A truth value turned into a number is one or zero. -/
theorem flag_val' (b : Bool) : (FloatOps.uitofp FTy.f32 (BitVec.ofBool b) : Ideal .f32) = if b then 1 else 0 := by
  show (((BitVec.ofBool b).toNat : ℝ) : EReal) = _
  cases b <;> simp

/-- A small word as a number. -/
theorem sitofp_val (t : ℕ) (h : t < 2147483648) :
    (FloatOps.sitofp FTy.f32 (BitVec.ofNat 32 t) : Ideal .f32) = ((t : ℝ) : EReal) := by
  show ((((BitVec.ofNat 32 t).toInt : ℤ) : ℝ) : EReal) = _
  have : (BitVec.ofNat 32 t).toInt = t := by
    rw [BitVec.toInt_eq_toNat_cond, BitVec.toNat_ofNat]; split_ifs <;> omega
  rw [this]; simp

/-! ### Constants -/

theorem top255_eq : top255 = ((255 : ℝ) : EReal) := by
  simp [top255, Ideal.ofBits, Ideal.ieee]
  rw [← EReal.coe_mul]; norm_num

theorem half_eq : Ideal.ofBits .f32 1056964608#32 = ((1 / 2 : ℝ) : EReal) := by
  simp [Ideal.ofBits, Ideal.ieee]
  rw [← EReal.coe_mul]; norm_num

/-! ### Levels -/

theorem maxsi_toInt (a b : BitVec 32) : (IntOp.maxsi a b).toInt = max a.toInt b.toInt := by
  unfold IntOp.maxsi
  split_ifs with h <;> simp only [BitVec.slt, decide_eq_true_eq, Bool.not_eq_true, decide_eq_false_iff_not] at h <;> omega

theorem minsi_toInt (a b : BitVec 32) : (IntOp.minsi a b).toInt = min a.toInt b.toInt := by
  unfold IntOp.minsi
  split_ifs with h <;> simp only [BitVec.slt, decide_eq_true_eq, Bool.not_eq_true, decide_eq_false_iff_not] at h <;> omega

theorem clamp_bounds (y : EReal) :
    -2147483648 ≤ Ideal.toIntClamped (-2147483648) 2147483647 y ∧ Ideal.toIntClamped (-2147483648) 2147483647 y ≤ 2147483647 := by
  induction y with
  | bot => simp
  | top => simp
  | coe r => rw [Ideal.toIntClamped_coe]; omega

/-- A level as an integer. -/
theorem level_toInt (y : EReal) :
    (level y).toInt = min 255 (max 0 (Ideal.toIntClamped (-2147483648) 2147483647 y)) := by
  have hc := clamp_bounds y
  have e : (Ideal.fptosi 32 y).toInt = Ideal.toIntClamped (-2147483648) 2147483647 y := by
    have : Ideal.fptosi 32 y = BitVec.ofInt 32 (Ideal.toIntClamped (-2147483648) 2147483647 y) := by
      unfold Ideal.fptosi; norm_num
    rw [this, BitVec.toInt_ofInt]
    generalize Ideal.toIntClamped (-2147483648) 2147483647 y = z at hc
    have h32 : ((2 ^ 32 : ℕ) : ℤ) = 4294967296 := by norm_num
    simp only [Int.bmod, h32]; split_ifs <;> omega
  rw [level, minsi_toInt, maxsi_toInt, e]; rfl

/-- A level is at most 255. -/
theorem level_lt (y : EReal) : (level y).toNat < 256 := by
  have h := level_toInt y
  have hc := clamp_bounds y
  have := BitVec.toInt_eq_toNat_cond (level y)
  have := (level y).isLt
  split_ifs at * <;> omega

/-- The upper and the lower four bits of a level. -/
theorem nibbles : ∀ k : Fin 256, IntOp.shrsi .vector (BitVec.ofNat 32 k.val) 4#32 = BitVec.ofNat 32 (k.val / 16)
    ∧ IntOp.andi (BitVec.ofNat 32 k.val) 15#32 = BitVec.ofNat 32 (k.val % 16) := by decide +kernel

/-- A level has the upper bits of `a` and the lower bits of `b` exactly when it is `16 a + b`. -/
theorem nibbles_iff (y : EReal) (a b : Fin 16) :
    (IntOp.shrsi .vector (level y) 4#32 = BitVec.ofNat 32 a.val ∧ IntOp.andi (level y) 15#32 = BitVec.ofNat 32 b.val)
      ↔ level y = BitVec.ofNat 32 (16 * a.val + b.val) := by
  have h := nibbles ⟨_, level_lt y⟩
  have e : BitVec.ofNat 32 (level y).toNat = level y := BitVec.ofNat_toNat _ _ |>.trans (BitVec.setWidth_eq _)
  simp only [e] at h
  rw [h.1, h.2]
  have ha := a.isLt; have hb := b.isLt; have hl := level_lt y
  constructor
  · rintro ⟨h1, h2⟩
    have h1 := congrArg BitVec.toNat h1; have h2 := congrArg BitVec.toNat h2
    simp only [BitVec.toNat_ofNat] at h1 h2
    apply BitVec.eq_of_toNat_eq; rw [BitVec.toNat_ofNat]; omega
  · intro h3
    have h3 := congrArg BitVec.toNat h3
    rw [BitVec.toNat_ofNat] at h3
    constructor <;> congr 1 <;> omega

/-- The level of 255 times `x` is at least `t` exactly when `x` is at least `t / 255`. -/
theorem sle_level (x : EReal) (t : ℕ) (h1 : 1 ≤ t) (h2 : t ≤ 255) :
    (BitVec.ofNat 32 t).sle (level (x * top255)) = true ↔ ((t / 255 : ℝ) : EReal) ≤ x := by
  have ht : (BitVec.ofNat 32 t).toInt = t := by
    rw [BitVec.toInt_eq_toNat_cond, BitVec.toNat_ofNat]; split_ifs <;> omega
  rw [BitVec.sle, decide_eq_true_eq, ht, level_toInt, top255_eq]
  induction x with
  | bot =>
    rw [EReal.bot_mul_coe_of_pos (by norm_num)]
    simp; omega
  | top =>
    rw [EReal.top_mul_coe_of_pos (by norm_num)]
    simp; omega
  | coe r =>
    rw [← EReal.coe_mul, Ideal.toIntClamped_coe, EReal.coe_le_coe_iff, div_le_iff₀ (by norm_num)]
    split_ifs with h
    · have e : ((t : ℤ) ≤ ⌊r * 255⌋) ↔ (t : ℝ) ≤ r * 255 := by rw [Int.le_floor]; norm_num
      rw [← e]; omega
    · have hc : ⌈r * 255⌉ ≤ 0 := by rw [Int.ceil_le]; push_cast; linarith
      constructor
      · intro h'; omega
      · intro h'
        have : (1 : ℝ) ≤ t := by exact_mod_cast h1
        linarith

end Cert.Otsu

end
-- ==== Proof.KMask.lean ====
module

public import proofs.«01_k».proof.Proof.Gen.KernelIdeal.Frame
public import proofs.«01_k».proof.Proof.Spec

/-! The kernel's dilated mask: two passes of five-wide maxima with zeros beyond the border, read at a pixel. -/

@[expose] public section

set_option maxRecDepth 16384

noncomputable section

namespace Cert.KernelIdeal

open Idealize.ShloMosaic Idealize.SL.Sem Cert.Otsu
open Facts₀ Facts

namespace Own

/-- The maximum of five neighbours along a row. -/
def alongRow (v1 : FVec Ideal S512x512 .f32) : FVec Ideal S512x512 .f32 :=
  maximumf (maximumf (maximumf (maximumf v1
    (concatenate S512x512 1 [⟨S512x2, broadcast S512x2 (Scalar.ofBits .f32 0x00000000#32)⟩, ⟨S512x510, extractStridedSlice S512x510 ![0, 0] v1 slices_S512x512_o0_0_S512x510⟩] concatenates_S512x2_S512x510_S512x512_d1))
    (concatenate S512x512 1 [⟨S512x1, broadcast S512x1 (Scalar.ofBits .f32 0x00000000#32)⟩, ⟨S512x511, extractStridedSlice S512x511 ![0, 0] v1 slices_S512x512_o0_0_S512x511⟩] concatenates_S512x1_S512x511_S512x512_d1))
    (concatenate S512x512 1 [⟨S512x511, extractStridedSlice S512x511 ![0, 1] v1 slices_S512x512_o0_1_S512x511⟩, ⟨S512x1, broadcast S512x1 (Scalar.ofBits .f32 0x00000000#32)⟩] concatenates_S512x511_S512x1_S512x512_d1))
    (concatenate S512x512 1 [⟨S512x510, extractStridedSlice S512x510 ![0, 2] v1 slices_S512x512_o0_2_S512x510⟩, ⟨S512x2, broadcast S512x2 (Scalar.ofBits .f32 0x00000000#32)⟩] concatenates_S512x510_S512x2_S512x512_d1)

/-- The maximum of five neighbours along a column. -/
def alongCol (v21 : FVec Ideal S512x512 .f32) : FVec Ideal S512x512 .f32 :=
  maximumf (maximumf (maximumf (maximumf v21
    (concatenate S512x512 0 [⟨S2x512, broadcast S2x512 (Scalar.ofBits .f32 0x00000000#32)⟩, ⟨S510x512, extractStridedSlice S510x512 ![0, 0] v21 slices_S512x512_o0_0_S510x512⟩] concatenates_S2x512_S510x512_S512x512_d0))
    (concatenate S512x512 0 [⟨S1x512, broadcast S1x512 (Scalar.ofBits .f32 0x00000000#32)⟩, ⟨S511x512, extractStridedSlice S511x512 ![0, 0] v21 slices_S512x512_o0_0_S511x512⟩] concatenates_S1x512_S511x512_S512x512_d0))
    (concatenate S512x512 0 [⟨S511x512, extractStridedSlice S511x512 ![1, 0] v21 slices_S512x512_o1_0_S511x512⟩, ⟨S1x512, broadcast S1x512 (Scalar.ofBits .f32 0x00000000#32)⟩] concatenates_S511x512_S1x512_S512x512_d0))
    (concatenate S512x512 0 [⟨S510x512, extractStridedSlice S510x512 ![2, 0] v21 slices_S512x512_o2_0_S510x512⟩, ⟨S2x512, broadcast S2x512 (Scalar.ofBits .f32 0x00000000#32)⟩] concatenates_S510x512_S2x512_S512x512_d0)

/-- The kernel's window maximum is the two passes. -/
theorem window_eq (x : Vec Ideal S1x1x512x512 .f32) :
    Gen.k0_pay5 x = alongCol (alongRow (shapeCast S512x512 x shapeCasts_S1x1x512x512_S512x512)) := rfl

/-- A maximum along a row is positive where one of the entries at most two away is. -/
theorem alongRow_pos (v : FVec Ideal S512x512 .f32) (r c : Fin 512) :
    0 < alongRow v (ix2 r c) ↔ ∃ c', near c c' ∧ 0 < v (ix2 r c') := by
  have hc := c.isLt
  pointwise [alongRow]
  simp only [lt_max_iff, pos_dite, pos_dite']
  constructor
  · rintro ((((h | ⟨hb, h⟩) | ⟨hb, h⟩) | ⟨hb, h⟩) | ⟨hb, h⟩)
    · exact ⟨c, ⟨by omega, by omega⟩, h⟩
    all_goals exact ⟨_, ⟨by simp only; omega, by simp only; omega⟩, h⟩
  · rintro ⟨c', ⟨h1, h2⟩, h⟩
    have hc' := c'.isLt
    obtain e | e | e | e | e : c'.val = c.val ∨ c'.val = c.val - 2 ∧ 2 ≤ c.val ∨ c'.val = c.val - 1 ∧ 1 ≤ c.val ∨ c'.val = 1 + c.val ∨ c'.val = 2 + c.val := by omega
    · left; left; left; left; rwa [show c = c' from Fin.ext e.symm]
    · left; left; left; right
      exact ⟨by omega, by rwa [show (⟨c.val - 2, by omega⟩ : Fin 512) = c' from Fin.ext e.1.symm]⟩
    · left; left; right
      exact ⟨by omega, by rwa [show (⟨c.val - 1, by omega⟩ : Fin 512) = c' from Fin.ext e.1.symm]⟩
    · left; right
      exact ⟨by omega, by rwa [show (⟨1 + c.val, by omega⟩ : Fin 512) = c' from Fin.ext e.symm]⟩
    · right
      exact ⟨by omega, by rwa [show (⟨2 + c.val, by omega⟩ : Fin 512) = c' from Fin.ext e.symm]⟩

/-- A maximum along a column is positive where one of the entries at most two away is. -/
theorem alongCol_pos (v : FVec Ideal S512x512 .f32) (c r : Fin 512) :
    0 < alongCol v (ix2 c r) ↔ ∃ c', near c c' ∧ 0 < v (ix2 c' r) := by
  have hc := c.isLt
  pointwise [alongCol]
  simp only [lt_max_iff, pos_dite, pos_dite']
  constructor
  · rintro ((((h | ⟨hb, h⟩) | ⟨hb, h⟩) | ⟨hb, h⟩) | ⟨hb, h⟩)
    · exact ⟨c, ⟨by omega, by omega⟩, h⟩
    all_goals exact ⟨_, ⟨by simp only; omega, by simp only; omega⟩, h⟩
  · rintro ⟨c', ⟨h1, h2⟩, h⟩
    have hc' := c'.isLt
    obtain e | e | e | e | e : c'.val = c.val ∨ c'.val = c.val - 2 ∧ 2 ≤ c.val ∨ c'.val = c.val - 1 ∧ 1 ≤ c.val ∨ c'.val = 1 + c.val ∨ c'.val = 2 + c.val := by omega
    · left; left; left; left; rwa [show c = c' from Fin.ext e.symm]
    · left; left; left; right
      exact ⟨by omega, by rwa [show (⟨c.val - 2, by omega⟩ : Fin 512) = c' from Fin.ext e.1.symm]⟩
    · left; left; right
      exact ⟨by omega, by rwa [show (⟨c.val - 1, by omega⟩ : Fin 512) = c' from Fin.ext e.1.symm]⟩
    · left; right
      exact ⟨by omega, by rwa [show (⟨1 + c.val, by omega⟩ : Fin 512) = c' from Fin.ext e.symm]⟩
    · right
      exact ⟨by omega, by rwa [show (⟨2 + c.val, by omega⟩ : Fin 512) = c' from Fin.ext e.symm]⟩

/-- The kernel's mask at a pixel is the dilated mask of the block's labels. -/
theorem mask_at (x : Vec Ideal S1x1x512x512 .f32) (r c : Fin 512) :
    Gen.k0_pay6 (Gen.k0_pay5 x) (Scalar.ofBits .f32 0x00000000#32) (ix2 r c) = on (fun r c => x (ix4 0 0 r c)) r c := by
  have h : 0 < Gen.k0_pay5 x (ix2 r c) ↔ hit (fun r c => x (ix4 0 0 r c)) r c := by
    rw [window_eq, alongCol_pos]
    simp only [alongRow_pos]
    have e : ∀ r' c', shapeCast S512x512 x shapeCasts_S1x1x512x512_S512x512 (ix2 r' c') = x (ix4 0 0 r' c') := by
      intro r' c'; pointwise
    simp only [e, hit]
    constructor
    · rintro ⟨r', hr, c', hc, hx⟩; exact ⟨r', c', hr, hc, hx⟩
    · rintro ⟨r', c', hr, hc, hx⟩; exact ⟨r', hr, c', hc, hx⟩
  pointwise [Gen.k0_pay6]
  rw [flag_val]
  unfold on
  by_cases hh : hit (fun r c => x (ix4 0 0 r c)) r c
  · simp [hh, h.2 hh]
  · simp [hh, mt h.1 hh]

end Own

end Cert.KernelIdeal

end
-- ==== Proof.KHist.lean ====
module

public import proofs.«01_k».proof.Proof.KMask

/-! The kernel's histogram: the product of the two one-hot matrices, read at a bin. -/

@[expose] public section

set_option maxRecDepth 16384

noncomputable section

namespace Cert.KernelIdeal

open Idealize.ShloMosaic Idealize.SL.Sem Cert.Otsu
open Facts₀ Facts

namespace Own

/-- Entry `(a, b)` of the 16×16 product is the histogram at bin `16 a + b`. -/
theorem product_at (w v : FVec Ideal S512x512 .f32) (img lab : Im) (hw : ∀ r c, w (ix2 r c) = img r c)
    (hv : ∀ r c, Gen.k0_pay6 v (Scalar.ofBits .f32 0x00000000#32) (ix2 r c) = on lab r c) (a b : Fin 16) :
    Gen.k0_pay9 w v (Scalar.ofBits .f32 0x00000000#32) (ix2 a b) = hist img lab (16 * a.val + b.val) := by
  have hz : (Scalar.ofBits .f32 0x00000000#32 : Ideal .f32) = 0 := by pointwise
  rw [hz] at hv
  pointwise [Gen.k0_pay9, Gen.k0_pay7]
  rw [Fin.sum_univ_tiles 512 512 (by norm_num)]
  unfold hist
  refine Finset.sum_congr rfl fun r _ => Finset.sum_congr rfl fun c _ => ?_
  have hr := r.isLt; have hc := c.isLt
  have e1 : (⟨(r.val * 512 + c.val) / 512, by omega⟩ : Fin 512) = r := Fin.ext (by simp only; omega)
  have e2 : (⟨(r.val * 512 + c.val) % 512, by omega⟩ : Fin 512) = c := Fin.ext (by simp only; omega)
  simp only [e1, e2, hv, hw]
  have key := nibbles_iff (img r c * on lab r c * top255 * spread) a b
  unfold bin
  refine Eq.trans ?_ (if_congr key rfl rfl)
  unfold Scalar.select IntOp.cmpi
  rw [flag_val]
  change (if BitVec.ofBool (IntOp.shrsi .vector (level (img r c * on lab r c * top255 * spread)) 4#32 == BitVec.ofNat 32 a.val) = 1 then
    on lab r c * (if (IntOp.andi (level (img r c * on lab r c * top255 * spread)) 15#32 == BitVec.ofNat 32 b.val) = true then 1 else 0) else 0) = _
  by_cases h1 : IntOp.shrsi .vector (level (img r c * on lab r c * top255 * spread)) 4#32 = BitVec.ofNat 32 a.val
  · by_cases h2 : IntOp.andi (level (img r c * on lab r c * top255 * spread)) 15#32 = BitVec.ofNat 32 b.val
    · simp [h1, h2]
    · simp [h1, h2]
  · have : (IntOp.shrsi ArithUnit.vector (level (img r c * on lab r c * top255 * spread)) 4#32 == BitVec.ofNat 32 a.val) = false := by simpa using h1
    rw [this]; simp [h1]

end Own

end Cert.KernelIdeal

end
-- ==== Proof.Count.lean ====
module

public import proofs.«01_k».proof.Proof.Spec

/-! Running sums, and the running sums of the histogram: the cumulative mass and the cumulative mean. -/

@[expose] public section

noncomputable section

namespace Cert.Otsu

open Idealize.ShloMosaic Finset

/-- The running sum up to and including position `n`. -/
def cum (f : ℕ → EReal) (n : ℕ) : EReal := ∑ m ∈ range (n + 1), f m

/-- The sum of the last `L` positions up to and including position `n`. -/
def win (f : ℕ → EReal) (L n : ℕ) : EReal := ∑ m ∈ range L, if m ≤ n then f (n - m) else 0

theorem win_one (f : ℕ → EReal) (n : ℕ) : win f 1 n = f n := by simp [win]

/-- Adding the window that ends `k` earlier doubles a window of length `k`. -/
theorem win_double (f : ℕ → EReal) (k n : ℕ) :
    (win f k n + if n < k then 0 else win f k (n - k)) = win f (k + k) n := by
  unfold win
  rw [sum_range_add (f := fun m => if m ≤ n then f (n - m) else 0)]
  congr 1
  split_ifs with h
  · symm; apply sum_eq_zero; intro m _; rw [if_neg (by omega)]
  · refine sum_congr rfl fun m _ => ?_
    by_cases h2 : m ≤ n - k
    · rw [if_pos h2, if_pos (by omega)]; congr 1; omega
    · rw [if_neg h2, if_neg (by omega)]

/-- A window longer than the position is the running sum. -/
theorem win_cum (f : ℕ → EReal) (L n : ℕ) (h : n < L) : win f L n = cum f n := by
  unfold win cum
  rw [← sum_range_reflect f (n + 1)]
  obtain ⟨d, rfl⟩ : ∃ d, L = (n + 1) + d := ⟨L - (n + 1), by omega⟩
  rw [sum_range_add]
  rw [sum_eq_zero (s := range d) (fun m _ => if_neg (by omega)), add_zero]
  refine sum_congr rfl fun m hm => ?_
  rw [mem_range] at hm
  rw [if_pos (by omega)]; congr 1

theorem cum_congr {f g : ℕ → EReal} {n : ℕ} (h : ∀ m, m ≤ n → f m = g m) : cum f n = cum g n :=
  sum_congr rfl fun m hm => h m (by rw [mem_range] at hm; omega)

theorem coe_sum {ι : Type} (s : Finset ι) (f : ι → ℝ) : ((∑ m ∈ s, f m : ℝ) : EReal) = ∑ m ∈ s, ((f m : ℝ) : EReal) := by
  classical
  induction s using Finset.induction_on with
  | empty => simp
  | insert a s ha ih => rw [sum_insert ha, sum_insert ha, EReal.coe_add, ih]

/-! ### The histogram is made of counts -/

open Classical in
/-- How many masked pixels fall in a bin. -/
def count (img lab : Im) (b : ℕ) : ℕ := ∑ r : Fin 512, ∑ c : Fin 512, if bin img lab r c = BitVec.ofNat 32 b ∧ hit lab r c then 1 else 0

theorem hist_eq (img lab : Im) (b : ℕ) : hist img lab b = ((count img lab b : ℝ) : EReal) := by
  classical
  unfold hist count on
  push_cast
  rw [coe_sum]
  refine sum_congr rfl fun r _ => ?_
  rw [coe_sum]
  refine sum_congr rfl fun c _ => ?_
  by_cases h : bin img lab r c = BitVec.ofNat 32 b <;> by_cases h2 : hit lab r c <;> simp [h, h2]

/-- Every masked pixel falls in one of the 256 bins. -/
theorem sum_hist (img lab : Im) : ∑ b ∈ range 256, hist img lab b = area lab := by
  unfold hist area
  rw [sum_comm]
  refine sum_congr rfl fun r _ => ?_
  rw [sum_comm]
  refine sum_congr rfl fun c _ => ?_
  have hl : (bin img lab r c).toNat < 256 := level_lt _
  rw [sum_eq_single (bin img lab r c).toNat]
  · rw [if_pos]; exact (BitVec.ofNat_toNat _ _ |>.trans (BitVec.setWidth_eq _)).symm
  · intro b hb hne
    rw [if_neg]
    intro h
    apply hne
    rw [mem_range] at hb
    rw [h, BitVec.toNat_ofNat]; omega
  · intro h; exact absurd (mem_range.mpr hl) h

/-- How many pixels the mask holds, as a number. -/
def total (img lab : Im) : ℝ := ∑ b ∈ range 256, (count img lab b : ℝ)

theorem area_eq (img lab : Im) : area lab = ((total img lab : ℝ) : EReal) := by
  rw [← sum_hist img lab, total, coe_sum]
  exact sum_congr rfl fun b _ => hist_eq img lab b

/-- The cumulative mass up to a level. -/
def mass (img lab : Im) (n : ℕ) : EReal := Ideal.div (cum (hist img lab) n) (area lab)

/-- The cumulative mean up to a level. -/
def mean (img lab : Im) (n : ℕ) : EReal := Ideal.div (cum (fun m => hist img lab m * ((m : ℝ) : EReal)) n) (area lab)

theorem div_real (x y : ℝ) (h : y ≠ 0) : Ideal.div ((x : ℝ) : EReal) ((y : ℝ) : EReal) = ((x / y : ℝ) : EReal) := by
  rw [Ideal.div_coe h, ← EReal.coe_mul, mul_one_div]

/-- The cumulative mass as a real number. -/
theorem mass_real (img lab : Im) (h : area lab ≠ 0) (n : ℕ) :
    mass img lab n = ((∑ m ∈ range (n + 1), (count img lab m : ℝ) / total img lab : ℝ) : EReal) := by
  have ht : total img lab ≠ 0 := by
    intro h0; apply h; rw [area_eq img lab, h0]; rfl
  unfold mass cum
  rw [area_eq img lab]
  simp only [hist_eq]
  rw [← coe_sum, div_real _ _ ht, sum_div]

/-- Dividing before summing gives the same cumulative mass. -/
theorem mass_eq (img lab : Im) (h : area lab ≠ 0) (n : ℕ) :
    cum (fun m => Ideal.div (hist img lab m) (area lab)) n = mass img lab n := by
  have ht : total img lab ≠ 0 := by
    intro h0; apply h; rw [area_eq img lab, h0]; rfl
  rw [mass_real img lab h, coe_sum]
  refine sum_congr rfl fun m _ => ?_
  show Ideal.div (hist img lab m) (area lab) = _
  rw [hist_eq, area_eq img lab, div_real _ _ ht]

/-- Dividing before summing gives the same cumulative mean. -/
theorem mean_eq (img lab : Im) (h : area lab ≠ 0) (n : ℕ) :
    cum (fun m => Ideal.div (hist img lab m) (area lab) * ((m : ℝ) : EReal)) n = mean img lab n := by
  have ht : total img lab ≠ 0 := by
    intro h0; apply h; rw [area_eq img lab, h0]; rfl
  unfold mean cum
  rw [area_eq img lab]
  simp only [hist_eq, ← EReal.coe_mul, div_real _ _ ht]
  rw [← coe_sum, ← coe_sum, div_real _ _ ht, sum_div]
  congr 1
  refine sum_congr rfl fun m _ => ?_
  ring

/-- The cumulative mass does not decrease. -/
theorem mass_mono (img lab : Im) (h : area lab ≠ 0) (a b : ℕ) (hab : a ≤ b) : ¬ 0 < mass img lab a - mass img lab b := by
  have ht : 0 ≤ total img lab := sum_nonneg fun _ _ => Nat.cast_nonneg _
  rw [mass_real img lab h, mass_real img lab h, ← EReal.coe_sub, ← EReal.coe_zero, EReal.coe_lt_coe_iff, not_lt, sub_nonpos]
  refine sum_le_sum_of_subset_of_nonneg (range_subset_range.mpr (by omega)) fun m _ _ => ?_
  exact div_nonneg (Nat.cast_nonneg _) ht

end Cert.Otsu

end
-- ==== Proof.KScan.lean ====
module

public import proofs.«01_k».proof.Proof.KHist
public import proofs.«01_k».proof.Proof.Count

/-! The kernel's running sums: each step adds the row shifted right by a power of two. -/

@[expose] public section

set_option maxRecDepth 16384

noncomputable section

namespace Cert.KernelIdeal

open Idealize.ShloMosaic Idealize.SL.Sem Cert.Otsu
open Facts₀ Facts

namespace Own

/-- The row plus itself shifted right by 1. -/
def step1 (v : FVec Ideal S1x256 .f32) : FVec Ideal S1x256 .f32 :=
  addf v (concatenate S1x256 1 [⟨S1x1, broadcast S1x1 (Scalar.ofBits .f32 0x00000000#32 : Ideal .f32)⟩,
    ⟨S1x255, extractStridedSlice S1x255 ![0, 0] v slices_S1x256_o0_0_S1x255⟩] concatenates_S1x1_S1x255_S1x256_d1)

/-- A step of 1 turns windows of length 1 into windows of length 2. -/
theorem step1_at (v : FVec Ideal S1x256 .f32) (f : ℕ → EReal) (hv : ∀ n : Fin 256, v (ix2 0 n) = win f 1 n.val) (n : Fin 256) :
    step1 v (ix2 0 n) = win f 2 n.val := by
  pointwise [step1]
  rw [hv, ← win_double f 1 n.val]
  congr 1
  have hn := n.isLt
  by_cases h : n.val < 1
  · rw [if_pos h, dif_pos h]
  · rw [if_neg h, dif_neg h]; exact hv ⟨n.val - 1, by omega⟩

/-- The row plus itself shifted right by 2. -/
def step2 (v : FVec Ideal S1x256 .f32) : FVec Ideal S1x256 .f32 :=
  addf v (concatenate S1x256 1 [⟨S1x2, broadcast S1x2 (Scalar.ofBits .f32 0x00000000#32 : Ideal .f32)⟩,
    ⟨S1x254, extractStridedSlice S1x254 ![0, 0] v slices_S1x256_o0_0_S1x254⟩] concatenates_S1x2_S1x254_S1x256_d1)

/-- A step of 2 turns windows of length 2 into windows of length 4. -/
theorem step2_at (v : FVec Ideal S1x256 .f32) (f : ℕ → EReal) (hv : ∀ n : Fin 256, v (ix2 0 n) = win f 2 n.val) (n : Fin 256) :
    step2 v (ix2 0 n) = win f 4 n.val := by
  pointwise [step2]
  rw [hv, ← win_double f 2 n.val]
  congr 1
  have hn := n.isLt
  by_cases h : n.val < 2
  · rw [if_pos h, dif_pos h]
  · rw [if_neg h, dif_neg h]; exact hv ⟨n.val - 2, by omega⟩

/-- The row plus itself shifted right by 4. -/
def step4 (v : FVec Ideal S1x256 .f32) : FVec Ideal S1x256 .f32 :=
  addf v (concatenate S1x256 1 [⟨S1x4, broadcast S1x4 (Scalar.ofBits .f32 0x00000000#32 : Ideal .f32)⟩,
    ⟨S1x252, extractStridedSlice S1x252 ![0, 0] v slices_S1x256_o0_0_S1x252⟩] concatenates_S1x4_S1x252_S1x256_d1)

/-- A step of 4 turns windows of length 4 into windows of length 8. -/
theorem step4_at (v : FVec Ideal S1x256 .f32) (f : ℕ → EReal) (hv : ∀ n : Fin 256, v (ix2 0 n) = win f 4 n.val) (n : Fin 256) :
    step4 v (ix2 0 n) = win f 8 n.val := by
  pointwise [step4]
  rw [hv, ← win_double f 4 n.val]
  congr 1
  have hn := n.isLt
  by_cases h : n.val < 4
  · rw [if_pos h, dif_pos h]
  · rw [if_neg h, dif_neg h]; exact hv ⟨n.val - 4, by omega⟩

/-- The row plus itself shifted right by 8. -/
def step8 (v : FVec Ideal S1x256 .f32) : FVec Ideal S1x256 .f32 :=
  addf v (concatenate S1x256 1 [⟨S1x8, broadcast S1x8 (Scalar.ofBits .f32 0x00000000#32 : Ideal .f32)⟩,
    ⟨S1x248, extractStridedSlice S1x248 ![0, 0] v slices_S1x256_o0_0_S1x248⟩] concatenates_S1x8_S1x248_S1x256_d1)

/-- A step of 8 turns windows of length 8 into windows of length 16. -/
theorem step8_at (v : FVec Ideal S1x256 .f32) (f : ℕ → EReal) (hv : ∀ n : Fin 256, v (ix2 0 n) = win f 8 n.val) (n : Fin 256) :
    step8 v (ix2 0 n) = win f 16 n.val := by
  pointwise [step8]
  rw [hv, ← win_double f 8 n.val]
  congr 1
  have hn := n.isLt
  by_cases h : n.val < 8
  · rw [if_pos h, dif_pos h]
  · rw [if_neg h, dif_neg h]; exact hv ⟨n.val - 8, by omega⟩

/-- The row plus itself shifted right by 16. -/
def step16 (v : FVec Ideal S1x256 .f32) : FVec Ideal S1x256 .f32 :=
  addf v (concatenate S1x256 1 [⟨S1x16, broadcast S1x16 (Scalar.ofBits .f32 0x00000000#32 : Ideal .f32)⟩,
    ⟨S1x240, extractStridedSlice S1x240 ![0, 0] v slices_S1x256_o0_0_S1x240⟩] concatenates_S1x16_S1x240_S1x256_d1)

/-- A step of 16 turns windows of length 16 into windows of length 32. -/
theorem step16_at (v : FVec Ideal S1x256 .f32) (f : ℕ → EReal) (hv : ∀ n : Fin 256, v (ix2 0 n) = win f 16 n.val) (n : Fin 256) :
    step16 v (ix2 0 n) = win f 32 n.val := by
  pointwise [step16]
  rw [hv, ← win_double f 16 n.val]
  congr 1
  have hn := n.isLt
  by_cases h : n.val < 16
  · rw [if_pos h, dif_pos h]
  · rw [if_neg h, dif_neg h]; exact hv ⟨n.val - 16, by omega⟩

/-- The row plus itself shifted right by 32. -/
def step32 (v : FVec Ideal S1x256 .f32) : FVec Ideal S1x256 .f32 :=
  addf v (concatenate S1x256 1 [⟨S1x32, broadcast S1x32 (Scalar.ofBits .f32 0x00000000#32 : Ideal .f32)⟩,
    ⟨S1x224, extractStridedSlice S1x224 ![0, 0] v slices_S1x256_o0_0_S1x224⟩] concatenates_S1x32_S1x224_S1x256_d1)

/-- A step of 32 turns windows of length 32 into windows of length 64. -/
theorem step32_at (v : FVec Ideal S1x256 .f32) (f : ℕ → EReal) (hv : ∀ n : Fin 256, v (ix2 0 n) = win f 32 n.val) (n : Fin 256) :
    step32 v (ix2 0 n) = win f 64 n.val := by
  pointwise [step32]
  rw [hv, ← win_double f 32 n.val]
  congr 1
  have hn := n.isLt
  by_cases h : n.val < 32
  · rw [if_pos h, dif_pos h]
  · rw [if_neg h, dif_neg h]; exact hv ⟨n.val - 32, by omega⟩

/-- The row plus itself shifted right by 64. -/
def step64 (v : FVec Ideal S1x256 .f32) : FVec Ideal S1x256 .f32 :=
  addf v (concatenate S1x256 1 [⟨S1x64, broadcast S1x64 (Scalar.ofBits .f32 0x00000000#32 : Ideal .f32)⟩,
    ⟨S1x192, extractStridedSlice S1x192 ![0, 0] v slices_S1x256_o0_0_S1x192⟩] concatenates_S1x64_S1x192_S1x256_d1)

/-- A step of 64 turns windows of length 64 into windows of length 128. -/
theorem step64_at (v : FVec Ideal S1x256 .f32) (f : ℕ → EReal) (hv : ∀ n : Fin 256, v (ix2 0 n) = win f 64 n.val) (n : Fin 256) :
    step64 v (ix2 0 n) = win f 128 n.val := by
  pointwise [step64]
  rw [hv, ← win_double f 64 n.val]
  congr 1
  have hn := n.isLt
  by_cases h : n.val < 64
  · rw [if_pos h, dif_pos h]
  · rw [if_neg h, dif_neg h]; exact hv ⟨n.val - 64, by omega⟩

/-- The row plus itself shifted right by 128. -/
def step128 (v : FVec Ideal S1x256 .f32) : FVec Ideal S1x256 .f32 :=
  addf v (concatenate S1x256 1 [⟨S1x128, broadcast S1x128 (Scalar.ofBits .f32 0x00000000#32 : Ideal .f32)⟩,
    ⟨S1x128, extractStridedSlice S1x128 ![0, 0] v slices_S1x256_o0_0_S1x128⟩] concatenates_S1x128_S1x128_S1x256_d1)

/-- A step of 128 turns windows of length 128 into windows of length 256. -/
theorem step128_at (v : FVec Ideal S1x256 .f32) (f : ℕ → EReal) (hv : ∀ n : Fin 256, v (ix2 0 n) = win f 128 n.val) (n : Fin 256) :
    step128 v (ix2 0 n) = win f 256 n.val := by
  pointwise [step128]
  rw [hv, ← win_double f 128 n.val]
  congr 1
  have hn := n.isLt
  by_cases h : n.val < 128
  · rw [if_pos h, dif_pos h]
  · rw [if_neg h, dif_neg h]; exact hv ⟨n.val - 128, by omega⟩

/-- The running sum of a row, in eight steps. -/
def scan (v : FVec Ideal S1x256 .f32) : FVec Ideal S1x256 .f32 := step128 (step64 (step32 (step16 (step8 (step4 (step2 (step1 v)))))))

/-- After the eight steps each position holds the running sum. -/
theorem scan_at (v : FVec Ideal S1x256 .f32) (f : ℕ → EReal) (hv : ∀ n : Fin 256, v (ix2 0 n) = f n.val) (n : Fin 256) :
    scan v (ix2 0 n) = cum f n.val := by
  rw [← win_cum f 256 n.val n.isLt]
  exact step128_at _ f (step64_at _ f (step32_at _ f (step16_at _ f (step8_at _ f (step4_at _ f (step2_at _ f (step1_at _ f (fun n => (hv n).trans (win_one f n.val).symm)))))))) n

/-- A row over one number, at a position. -/
theorem rowDiv_at (a : FVec Ideal S1x256 .f32) (b : Ideal .f32) (n : Fin 256) :
    divf a (broadcast S1x256 b) (ix2 0 n) = Ideal.div (a (ix2 0 n)) b := by
  pointwise

end Own

end Cert.KernelIdeal

end
-- ==== Proof.KRow.lean ====
module

public import proofs.«01_k».proof.Proof.KScan

/-! The kernel's histogram row, its total, its cumulative mass and its cumulative mean. -/

@[expose] public section

set_option maxRecDepth 16384

noncomputable section

namespace Cert.KernelIdeal

open Idealize.ShloMosaic Idealize.SL.Sem Cert.Otsu
open Facts₀ Facts

namespace Own

theorem pay22_sum (x : FVec Ideal S16x16 .f32) (p0 p1 p2 p3 p4 p5 p6 p7 p8 p9 p10 : FVec Ideal S1x16 .f32) :
    Gen.k0_pay22 x p0 p1 p2 p3 p4 p5 p6 p7 p8 p9 p10 = ∑ _a : Fin 1, ∑ n : Fin 256, Gen.k0_pay21 x p0 p1 p2 p3 p4 p5 p6 p7 p8 p9 p10 (ix2 0 n) := by
  pointwise [Gen.k0_pay22]

theorem pay24_at (x : FVec Ideal S16x16 .f32) (p0 p1 p2 p3 p4 p5 p6 p7 p8 p9 p10 : FVec Ideal S1x16 .f32) (n : Fin 256) :
    Gen.k0_pay24 x p0 p1 p2 p3 p4 p5 p6 p7 p8 p9 p10 (ix2 0 n)
      = Gen.k0_pay21 x p0 p1 p2 p3 p4 p5 p6 p7 p8 p9 p10 (ix2 0 n) * (FloatOps.sitofp FTy.f32 (BitVec.ofNat 32 n.val) : Ideal .f32) := by
  pointwise [Gen.k0_pay24]

section
variable (w v : FVec Ideal S512x512 .f32)

/-- The kernel's histogram row. -/
def row : FVec Ideal S1x256 .f32 :=
  Gen.k0_pay21 (Gen.k0_pay9 w v (Scalar.ofBits .f32 0x00000000#32)) (Gen.k0_pay10 w v (Scalar.ofBits .f32 0x00000000#32))
    (Gen.k0_pay11 w v (Scalar.ofBits .f32 0x00000000#32)) (Gen.k0_pay12 w v (Scalar.ofBits .f32 0x00000000#32)) (Gen.k0_pay13 w v (Scalar.ofBits .f32 0x00000000#32))
    (Gen.k0_pay14 w v (Scalar.ofBits .f32 0x00000000#32)) (Gen.k0_pay15 w v (Scalar.ofBits .f32 0x00000000#32)) (Gen.k0_pay16 w v (Scalar.ofBits .f32 0x00000000#32))
    (Gen.k0_pay17 w v (Scalar.ofBits .f32 0x00000000#32)) (Gen.k0_pay18 w v (Scalar.ofBits .f32 0x00000000#32)) (Gen.k0_pay19 w v (Scalar.ofBits .f32 0x00000000#32))
    (Gen.k0_pay20 w v (Scalar.ofBits .f32 0x00000000#32))

/-- The sixteen pieces of the histogram row. -/
def rowPiece (k : Fin 16) : FVec Ideal S1x16 .f32 :=
  ![Gen.k0_pay10 w v (Scalar.ofBits .f32 0x00000000#32),
    Gen.k0_pay11 w v (Scalar.ofBits .f32 0x00000000#32),
    Gen.k0_pay12 w v (Scalar.ofBits .f32 0x00000000#32),
    Gen.k0_pay13 w v (Scalar.ofBits .f32 0x00000000#32),
    Gen.k0_pay14 w v (Scalar.ofBits .f32 0x00000000#32),
    Gen.k0_pay15 w v (Scalar.ofBits .f32 0x00000000#32),
    Gen.k0_pay16 w v (Scalar.ofBits .f32 0x00000000#32),
    Gen.k0_pay17 w v (Scalar.ofBits .f32 0x00000000#32),
    Gen.k0_pay18 w v (Scalar.ofBits .f32 0x00000000#32),
    Gen.k0_pay19 w v (Scalar.ofBits .f32 0x00000000#32),
    Gen.k0_pay20 w v (Scalar.ofBits .f32 0x00000000#32),
    extractStridedSlice S1x16 ![11, 0] (Gen.k0_pay9 w v (Scalar.ofBits .f32 0x00000000#32)) slices_S16x16_o11_0_S1x16,
    extractStridedSlice S1x16 ![12, 0] (Gen.k0_pay9 w v (Scalar.ofBits .f32 0x00000000#32)) slices_S16x16_o12_0_S1x16,
    extractStridedSlice S1x16 ![13, 0] (Gen.k0_pay9 w v (Scalar.ofBits .f32 0x00000000#32)) slices_S16x16_o13_0_S1x16,
    extractStridedSlice S1x16 ![14, 0] (Gen.k0_pay9 w v (Scalar.ofBits .f32 0x00000000#32)) slices_S16x16_o14_0_S1x16,
    extractStridedSlice S1x16 ![15, 0] (Gen.k0_pay9 w v (Scalar.ofBits .f32 0x00000000#32)) slices_S16x16_o15_0_S1x16] k

/-- The kernel's total count. -/
def tot : Ideal .f32 :=
  Gen.k0_pay22 (Gen.k0_pay9 w v (Scalar.ofBits .f32 0x00000000#32)) (Gen.k0_pay10 w v (Scalar.ofBits .f32 0x00000000#32))
    (Gen.k0_pay11 w v (Scalar.ofBits .f32 0x00000000#32)) (Gen.k0_pay12 w v (Scalar.ofBits .f32 0x00000000#32)) (Gen.k0_pay13 w v (Scalar.ofBits .f32 0x00000000#32))
    (Gen.k0_pay14 w v (Scalar.ofBits .f32 0x00000000#32)) (Gen.k0_pay15 w v (Scalar.ofBits .f32 0x00000000#32)) (Gen.k0_pay16 w v (Scalar.ofBits .f32 0x00000000#32))
    (Gen.k0_pay17 w v (Scalar.ofBits .f32 0x00000000#32)) (Gen.k0_pay18 w v (Scalar.ofBits .f32 0x00000000#32)) (Gen.k0_pay19 w v (Scalar.ofBits .f32 0x00000000#32))
    (Gen.k0_pay20 w v (Scalar.ofBits .f32 0x00000000#32))

/-- The kernel's cumulative mass. -/
def massRow : FVec Ideal S1x256 .f32 :=
  Gen.k0_pay23 (Gen.k0_pay9 w v (Scalar.ofBits .f32 0x00000000#32)) (Gen.k0_pay10 w v (Scalar.ofBits .f32 0x00000000#32))
    (Gen.k0_pay11 w v (Scalar.ofBits .f32 0x00000000#32)) (Gen.k0_pay12 w v (Scalar.ofBits .f32 0x00000000#32)) (Gen.k0_pay13 w v (Scalar.ofBits .f32 0x00000000#32))
    (Gen.k0_pay14 w v (Scalar.ofBits .f32 0x00000000#32)) (Gen.k0_pay15 w v (Scalar.ofBits .f32 0x00000000#32)) (Gen.k0_pay16 w v (Scalar.ofBits .f32 0x00000000#32))
    (Gen.k0_pay17 w v (Scalar.ofBits .f32 0x00000000#32)) (Gen.k0_pay18 w v (Scalar.ofBits .f32 0x00000000#32)) (Gen.k0_pay19 w v (Scalar.ofBits .f32 0x00000000#32))
    (Gen.k0_pay20 w v (Scalar.ofBits .f32 0x00000000#32))

/-- The kernel's histogram weighted with the levels. -/
def wRow : FVec Ideal S1x256 .f32 :=
  Gen.k0_pay24 (Gen.k0_pay9 w v (Scalar.ofBits .f32 0x00000000#32)) (Gen.k0_pay10 w v (Scalar.ofBits .f32 0x00000000#32))
    (Gen.k0_pay11 w v (Scalar.ofBits .f32 0x00000000#32)) (Gen.k0_pay12 w v (Scalar.ofBits .f32 0x00000000#32)) (Gen.k0_pay13 w v (Scalar.ofBits .f32 0x00000000#32))
    (Gen.k0_pay14 w v (Scalar.ofBits .f32 0x00000000#32)) (Gen.k0_pay15 w v (Scalar.ofBits .f32 0x00000000#32)) (Gen.k0_pay16 w v (Scalar.ofBits .f32 0x00000000#32))
    (Gen.k0_pay17 w v (Scalar.ofBits .f32 0x00000000#32)) (Gen.k0_pay18 w v (Scalar.ofBits .f32 0x00000000#32)) (Gen.k0_pay19 w v (Scalar.ofBits .f32 0x00000000#32))
    (Gen.k0_pay20 w v (Scalar.ofBits .f32 0x00000000#32))

/-- The weighted histogram shifted right by one. -/
def wShift : FVec Ideal S1x256 .f32 :=
  Gen.k0_pay25 (Gen.k0_pay9 w v (Scalar.ofBits .f32 0x00000000#32)) (Gen.k0_pay10 w v (Scalar.ofBits .f32 0x00000000#32))
    (Gen.k0_pay11 w v (Scalar.ofBits .f32 0x00000000#32)) (Gen.k0_pay12 w v (Scalar.ofBits .f32 0x00000000#32)) (Gen.k0_pay13 w v (Scalar.ofBits .f32 0x00000000#32))
    (Gen.k0_pay14 w v (Scalar.ofBits .f32 0x00000000#32)) (Gen.k0_pay15 w v (Scalar.ofBits .f32 0x00000000#32)) (Gen.k0_pay16 w v (Scalar.ofBits .f32 0x00000000#32))
    (Gen.k0_pay17 w v (Scalar.ofBits .f32 0x00000000#32)) (Gen.k0_pay18 w v (Scalar.ofBits .f32 0x00000000#32)) (Gen.k0_pay19 w v (Scalar.ofBits .f32 0x00000000#32))
    (Gen.k0_pay20 w v (Scalar.ofBits .f32 0x00000000#32))

/-- The kernel's cumulative mean. -/
def meanRow : FVec Ideal S1x256 .f32 := Gen.k0_pay26 (tot w v) (wRow w v) (wShift w v)

theorem massRow_eq : massRow w v = divf (scan (row w v)) (broadcast S1x256 (tot w v)) := rfl

theorem meanRow_eq : meanRow w v = divf (scan (wRow w v)) (broadcast S1x256 (tot w v)) := rfl

variable (img lab : Im) (hw : ∀ r c, w (ix2 r c) = img r c)
  (hv : ∀ r c, Gen.k0_pay6 v (Scalar.ofBits .f32 0x00000000#32) (ix2 r c) = on lab r c)
include hw hv

omit hw hv in
/-- The row is the sixteen rows of the product laid end to end. -/
theorem rowPiece_fits : Shape.Concatenates ((List.ofFn fun k : Fin 16 => (⟨S1x16, rowPiece w v k⟩ : (s : Shape) × (s.Idx → Ideal .f32))).map (·.1)) S1x256 1 :=
  concatenates_S1x16_S1x16_S1x16_S1x16_S1x16_S1x16_S1x16_S1x16_S1x16_S1x16_S1x16_S1x16_S1x16_S1x16_S1x16_S1x16_S1x256_d1

omit hw hv in
theorem row_eq : row w v = concatenate S1x256 1 (List.ofFn fun k : Fin 16 => (⟨S1x16, rowPiece w v k⟩ : (s : Shape) × (s.Idx → Ideal .f32)))
    (rowPiece_fits w v) := rfl

omit hw hv in
theorem rowPiece_at (k b : Fin 16) : rowPiece w v k (ix2 0 b) = Gen.k0_pay9 w v (Scalar.ofBits .f32 0x00000000#32) (ix2 k b) := by
  fin_cases k
  · show (Gen.k0_pay10 w v (Scalar.ofBits .f32 0x00000000#32)) (ix2 0 b) = _
    pointwise [Gen.k0_pay10]
  · show (Gen.k0_pay11 w v (Scalar.ofBits .f32 0x00000000#32)) (ix2 0 b) = _
    pointwise [Gen.k0_pay11]
  · show (Gen.k0_pay12 w v (Scalar.ofBits .f32 0x00000000#32)) (ix2 0 b) = _
    pointwise [Gen.k0_pay12]
  · show (Gen.k0_pay13 w v (Scalar.ofBits .f32 0x00000000#32)) (ix2 0 b) = _
    pointwise [Gen.k0_pay13]
  · show (Gen.k0_pay14 w v (Scalar.ofBits .f32 0x00000000#32)) (ix2 0 b) = _
    pointwise [Gen.k0_pay14]
  · show (Gen.k0_pay15 w v (Scalar.ofBits .f32 0x00000000#32)) (ix2 0 b) = _
    pointwise [Gen.k0_pay15]
  · show (Gen.k0_pay16 w v (Scalar.ofBits .f32 0x00000000#32)) (ix2 0 b) = _
    pointwise [Gen.k0_pay16]
  · show (Gen.k0_pay17 w v (Scalar.ofBits .f32 0x00000000#32)) (ix2 0 b) = _
    pointwise [Gen.k0_pay17]
  · show (Gen.k0_pay18 w v (Scalar.ofBits .f32 0x00000000#32)) (ix2 0 b) = _
    pointwise [Gen.k0_pay18]
  · show (Gen.k0_pay19 w v (Scalar.ofBits .f32 0x00000000#32)) (ix2 0 b) = _
    pointwise [Gen.k0_pay19]
  · show (Gen.k0_pay20 w v (Scalar.ofBits .f32 0x00000000#32)) (ix2 0 b) = _
    pointwise [Gen.k0_pay20]
  · show (extractStridedSlice S1x16 ![11, 0] (Gen.k0_pay9 w v (Scalar.ofBits .f32 0x00000000#32)) slices_S16x16_o11_0_S1x16) (ix2 0 b) = _
    pointwise
  · show (extractStridedSlice S1x16 ![12, 0] (Gen.k0_pay9 w v (Scalar.ofBits .f32 0x00000000#32)) slices_S16x16_o12_0_S1x16) (ix2 0 b) = _
    pointwise
  · show (extractStridedSlice S1x16 ![13, 0] (Gen.k0_pay9 w v (Scalar.ofBits .f32 0x00000000#32)) slices_S16x16_o13_0_S1x16) (ix2 0 b) = _
    pointwise
  · show (extractStridedSlice S1x16 ![14, 0] (Gen.k0_pay9 w v (Scalar.ofBits .f32 0x00000000#32)) slices_S16x16_o14_0_S1x16) (ix2 0 b) = _
    pointwise
  · show (extractStridedSlice S1x16 ![15, 0] (Gen.k0_pay9 w v (Scalar.ofBits .f32 0x00000000#32)) slices_S16x16_o15_0_S1x16) (ix2 0 b) = _
    pointwise

/-- The histogram row holds the histogram. -/
theorem row_at (n : Fin 256) : row w v (ix2 0 n) = hist img lab n.val := by
  have key := product_at w v img lab hw hv
  have hn := n.isLt
  rw [row_eq, concatenate_ofFn_apply (s₁ := S1x16) (t := S1x256) 1 (rowPiece w v) _ rfl 16 rfl (ix2 0 n) ⟨n.val / 16, by omega⟩ rfl
    (ix2 0 ⟨n.val % 16, by omega⟩) rfl, rowPiece_at, key]
  · congr 1; simp only; omega
  · intro b hb
    fin_cases b
    · rfl
    · exact absurd rfl hb

omit hw hv in
theorem tot_sum : tot w v = ∑ n : Fin 256, row w v (ix2 0 n) := by
  have e : tot w v = ∑ _a : Fin 1, ∑ n : Fin 256, row w v (ix2 0 n) := by
    exact pay22_sum _ _ _ _ _ _ _ _ _ _ _ _
  rw [e]; simp

/-- The total count is the number of masked pixels. -/
theorem tot_eq : tot w v = area lab := by
  rw [tot_sum, ← sum_hist img lab, Finset.sum_range]
  exact Finset.sum_congr rfl fun n _ => row_at w v img lab hw hv n

theorem wRow_at (n : Fin 256) : wRow w v (ix2 0 n) = hist img lab n.val * ((n.val : ℝ) : EReal) := by
  have e : wRow w v (ix2 0 n) = row w v (ix2 0 n) * (FloatOps.sitofp FTy.f32 (BitVec.ofNat 32 n.val) : Ideal .f32) := by
    exact pay24_at _ _ _ _ _ _ _ _ _ _ _ _ n
  rw [e, row_at w v img lab hw hv, sitofp_val _ (by omega)]

/-- The kernel's cumulative mass, level by level. -/
theorem massRow_at (n : Fin 256) : massRow w v (ix2 0 n) = mass img lab n.val := by
  have e : massRow w v (ix2 0 n) = Ideal.div (scan (row w v) (ix2 0 n)) (tot w v) := by
    rw [massRow_eq, rowDiv_at]
  rw [e, scan_at _ _ (row_at w v img lab hw hv), tot_eq w v img lab hw hv]; rfl

/-- The kernel's cumulative mean, level by level. -/
theorem meanRow_at (n : Fin 256) : meanRow w v (ix2 0 n) = mean img lab n.val := by
  have e : meanRow w v (ix2 0 n) = Ideal.div (scan (wRow w v) (ix2 0 n)) (tot w v) := by
    rw [meanRow_eq, rowDiv_at]
  rw [e, scan_at _ (fun m => hist img lab m * ((m : ℝ) : EReal)) (wRow_at w v img lab hw hv), tot_eq w v img lab hw hv]; rfl

end

end Own

end Cert.KernelIdeal

end
-- ==== Proof.Pick.lean ====
module

public import proofs.«01_k».proof.Proof.Count

/-! Finding the best pair with a maximum and a minimum over one-word keys, and reading the pair back out of the key. -/

@[expose] public section

noncomputable section

namespace Cert.Otsu

open Idealize.ShloMosaic Finset

theorem neg_one_eq : Ideal.ofBits .f32 3212836864#32 = ((-1 : ℝ) : EReal) := by
  simp [Ideal.ofBits, Ideal.ieee]
  try (rw [← EReal.coe_mul]; norm_num)

theorem bot_eq : Ideal.ofBits .f32 4286578688#32 = (⊥ : EReal) := by
  simp [Ideal.ofBits, Ideal.ieee]

/-- The word that stands for a pair. -/
def key (i j : ℕ) : BitVec 32 := BitVec.ofNat 32 (i * 65536 + j)

theorem key_toNat (i j : ℕ) (hi : i < 256) (hj : j < 256) : (key i j).toNat = i * 65536 + j := by
  rw [key, BitVec.toNat_ofNat]; omega

theorem key_toInt (i j : ℕ) (hi : i < 256) (hj : j < 256) : (key i j).toInt = i * 65536 + j := by
  rw [BitVec.toInt_eq_toNat_cond, key_toNat i j hi hj]; split_ifs <;> omega

/-- The key is the row times 65536 plus the column. -/
theorem key_word (i j : ℕ) : IntOp.addi (IntOp.muli (BitVec.ofNat 32 i) 65536#32) (BitVec.ofNat 32 j) = key i j := by
  unfold key IntOp.addi IntOp.muli
  rw [BitVec.ofNat_add, BitVec.ofNat_mul]

/-- One more than the row, read back from a key. -/
theorem key_row (i j : ℕ) (hi : i < 256) (hj : j < 256) :
    IntOp.addi 1#32 (IntOp.shrsi .scalar (key i j) 16#32) = BitVec.ofNat 32 (i + 1) := by
  have hk := key_toNat i j hi hj
  have hm : (key i j).msb = false := by rw [BitVec.msb_eq_false_iff_two_mul_lt, hk]; omega
  have h : IntOp.shrsi .scalar (key i j) 16#32 = BitVec.ofNat 32 i := by
    have : IntOp.shrsi .scalar (key i j) 16#32 = (key i j).sshiftRight 16 := rfl
    rw [this, BitVec.sshiftRight_eq_of_msb_false hm]
    apply BitVec.eq_of_toNat_eq
    rw [BitVec.toNat_ushiftRight, hk, Nat.shiftRight_eq_div_pow, BitVec.toNat_ofNat]; omega
  rw [h]; unfold IntOp.addi
  apply BitVec.eq_of_toNat_eq; rw [BitVec.toNat_add, BitVec.toNat_ofNat, BitVec.toNat_ofNat, BitVec.toNat_ofNat]; omega

/-- One more than the column, read back from a key. -/
theorem key_col (i j : ℕ) (hi : i < 256) (hj : j < 256) :
    IntOp.addi 1#32 (IntOp.andi (key i j) 65535#32) = BitVec.ofNat 32 (j + 1) := by
  have hk := key_toNat i j hi hj
  have h : IntOp.andi (key i j) 65535#32 = BitVec.ofNat 32 j := by
    unfold IntOp.andi
    apply BitVec.eq_of_toNat_eq
    have e : (65535#32).toNat = 2 ^ 16 - 1 := rfl
    rw [BitVec.toNat_and, hk, e, Nat.and_two_pow_sub_one_eq_mod, BitVec.toNat_ofNat]; omega
  rw [h]; unfold IntOp.addi
  apply BitVec.eq_of_toNat_eq; rw [BitVec.toNat_add, BitVec.toNat_ofNat, BitVec.toNat_ofNat, BitVec.toNat_ofNat]; omega

/-- The least key among the places of the greatest value names the picked pair. -/
theorem pick_of_min (s : ℕ → ℕ → EReal) (h0 : s 0 0 = 0) (S : Fin 256 × Fin 256 → EReal) (K : Fin 256 × Fin 256 → BitVec 32)
    (hS : ∀ x, S x = if x.1.val < 254 ∧ x.2.val < 254 then s x.1.val x.2.val else Ideal.ofBits .f32 3212836864#32)
    (hK : ∀ x, K x = if S x = fold max (Ideal.ofBits .f32 4286578688#32) S univ then key x.1.val x.2.val else 1073741824#32) :
    ∃ i j, IsPick s i j ∧ fold IntOp.minsi 2147483647#32 K univ = key i j := by
  classical
  rw [bot_eq] at hK
  generalize hm : fold max ⊥ S univ = m at hK
  have hle : ∀ x, S x ≤ m := fun x => (Finset.fold_max_le (s := univ) (f := S) (b := ⊥) m).1 hm.le |>.2 x (mem_univ x)
  have hz : S (0, 0) = 0 := by rw [hS]; simpa using h0
  have hm0 : 0 ≤ m := hz ▸ hle (0, 0)
  have hex : ∃ x, S x = m := by
    rcases (Finset.le_fold_max (s := univ) (f := S) (b := ⊥) m).1 hm.ge with h | ⟨x, _, hx⟩
    · exact absurd (hm0.trans h) (by simp)
    · exact ⟨x, le_antisymm (hle x) hx⟩
  have hin : ∀ x, S x = m → x.1.val < 254 ∧ x.2.val < 254 := by
    intro x hx
    by_contra hc
    rw [hS, if_neg hc, neg_one_eq] at hx
    rw [← hx] at hm0
    have : (0 : ℝ) ≤ -1 := by exact_mod_cast hm0
    linarith
  obtain ⟨y, hy⟩ := hex
  obtain ⟨x, hx, hmin⟩ := exists_min_image (univ.filter fun x => S x = m) (fun x => x.1.val * 65536 + x.2.val)
    ⟨y, mem_filter.mpr ⟨mem_univ _, hy⟩⟩
  have hx : S x = m := (mem_filter.mp hx).2
  have hxin := hin x hx
  have hSx : s x.1.val x.2.val = m := by rw [← hx, hS, if_pos hxin]
  have hval : ∀ a b (ha : a < 254) (hb : b < 254), S (⟨a, by omega⟩, ⟨b, by omega⟩) = s a b := fun a b ha hb => by
    rw [hS, if_pos ⟨ha, hb⟩]
  refine ⟨x.1.val, x.2.val, ⟨hxin.1, hxin.2, fun a b ha hb => ?_, fun a b ha hb e => ?_⟩, ?_⟩
  · rw [hSx, ← hval a b ha hb]; exact hle _
  · have := hmin (⟨a, by omega⟩, ⟨b, by omega⟩) (mem_filter.mpr ⟨mem_univ _, by rw [hval a b ha hb, e, hSx]⟩)
    simp only at this
    omega
  · apply BitVec.eq_of_toInt_eq
    rw [← fold_hom (op' := min) (m := BitVec.toInt) minsi_toInt]
    have hx1 := x.1.isLt; have hx2 := x.2.isLt
    rw [key_toInt _ _ hx1 hx2]
    apply le_antisymm
    · rw [Finset.fold_min_le]
      right
      refine ⟨x, mem_univ _, ?_⟩
      rw [hK, if_pos hx, key_toInt _ _ hx1 hx2]
    · rw [Finset.le_fold_min]
      have h1 : (2147483647#32).toInt = 2147483647 := by decide
      have h2 : (1073741824#32).toInt = 1073741824 := by decide
      refine ⟨by rw [h1]; omega, fun y _ => ?_⟩
      rw [hK]
      split_ifs with hy
      · rw [key_toInt _ _ y.1.isLt y.2.isLt]
        have := hmin y (mem_filter.mpr ⟨mem_univ _, hy⟩)
        exact_mod_cast this
      · rw [h2]; omega

end Cert.Otsu

end
-- ==== Proof.KPick.lean ====
module

public import proofs.«01_k».proof.Proof.KRow
public import proofs.«01_k».proof.Proof.Pick

/-! The kernel's choice of the two thresholds, and the sum of squared differences it makes with them. -/

@[expose] public section

set_option maxRecDepth 16384

noncomputable section

namespace Cert.KernelIdeal

open Idealize.ShloMosaic Idealize.SL.Sem Cert.Otsu
open Facts₀ Facts

namespace Own

theorem and_flag (a b : Bool) : IntOp.andi (BitVec.ofBool a) (BitVec.ofBool b) = BitVec.ofBool (a && b) := by
  cases a <;> cases b <;> rfl

theorem lt_flag (i : Fin 256) : IntOp.cmpi CmpIPredicate.slt (BitVec.ofNat 32 i.val) 254#32 = BitVec.ofBool (decide (i.val < 254)) := by
  have h : (BitVec.ofNat 32 i.val).toInt = i.val := by
    rw [BitVec.toInt_eq_toNat_cond, BitVec.toNat_ofNat]; split_ifs <;> omega
  show BitVec.ofBool ((BitVec.ofNat 32 i.val).slt 254#32) = _
  congr 1
  rw [BitVec.slt, h]
  have : (254#32).toInt = 254 := by decide
  rw [this]; congr 1; simp

theorem select_flag {α : Type} (b : Bool) (x y : α) : Scalar.select (BitVec.ofBool b) x y = if b then x else y := by
  cases b <;> simp [Scalar.select]

/-- The least key over the kernel's key plane names the pair with the best score. -/
theorem pick_at (a : FVec Ideal S1x1 .f32) (b c d e f g : FVec Ideal S256x256 .f32) (ch cm : ℕ → EReal) (tm : EReal)
    (ha : a (ix2 0 0) = tm)
    (hb : ∀ i j : Fin 256, b (ix2 i j) = ch i.val)
    (hc : ∀ i j : Fin 256, c (ix2 i j) = ch j.val - ch i.val)
    (hd : ∀ i j : Fin 256, d (ix2 i j) = 1 - ch j.val)
    (he : ∀ i j : Fin 256, e (ix2 i j) = Ideal.div (cm i.val) (ch i.val + eps))
    (hf : ∀ i j : Fin 256, f (ix2 i j) = Ideal.div (cm j.val - cm i.val) (ch j.val - ch i.val + eps))
    (hg : ∀ i j : Fin 256, g (ix2 i j) = tm - cm j.val)
    (h0 : ¬ 0 < ch 0 - ch 0) :
    ∃ i j, IsPick (score ch cm tm) i j
      ∧ Finset.fold IntOp.minsi 2147483647#32 (fun x : Fin 256 × Fin 256 => Gen.k0_pay37 a b c d e f g (ix3 0 x.1 x.2)) Finset.univ = key i j := by
  have hz : score ch cm tm 0 0 = 0 := if_neg fun h => h0 h.2.1
  refine pick_of_min (score ch cm tm) hz
    (fun x => if x.1.val < 254 ∧ x.2.val < 254 then score ch cm tm x.1.val x.2.val else Ideal.ofBits .f32 3212836864#32)
    _ (fun x => rfl) fun x => ?_
  have hsel : ∀ x : Fin 256 × Fin 256, Scalar.select
            (IntOp.andi
              (IntOp.andi
                (IntOp.andi (BitVec.ofBool (decide (0 < ch x.1.val))) (BitVec.ofBool (decide (0 < ch x.2.val - ch x.1.val))))
                (BitVec.ofBool (decide (0 < 1 - ch x.2.val))))
              (IntOp.andi (IntOp.cmpi CmpIPredicate.slt (BitVec.ofNat 32 x.1.val) 254#32)
                (IntOp.cmpi CmpIPredicate.slt (BitVec.ofNat 32 x.2.val) 254#32)))
            (between ch cm tm x.1.val x.2.val)
            (Scalar.select
              (IntOp.andi (IntOp.cmpi CmpIPredicate.slt (BitVec.ofNat 32 x.1.val) 254#32)
                (IntOp.cmpi CmpIPredicate.slt (BitVec.ofNat 32 x.2.val) 254#32))
              0 (Ideal.ofBits FTy.f32 3212836864#32))
        = if x.1.val < 254 ∧ x.2.val < 254 then score ch cm tm x.1.val x.2.val else Ideal.ofBits .f32 3212836864#32 := by
    intro x
    simp only [lt_flag, and_flag, select_flag, Bool.and_eq_true, decide_eq_true_eq, score, admissible, and_assoc]
    by_cases h1 : x.1.val < 254 ∧ x.2.val < 254
    · simp only [h1, and_true, and_self, if_true]; congr
    · have h2 : ¬ (0 < ch x.1.val ∧ 0 < ch x.2.val - ch x.1.val ∧ 0 < 1 - ch x.2.val ∧ x.1.val < 254 ∧ x.2.val < 254) :=
        fun h => h1 h.2.2.2
      rw [if_neg h1, if_neg h2, if_neg h1]
  pointwise [Gen.k0_pay37]
  simp only [ha, hb, hc, hd, he, hf, hg, key_word]
  simp only [between, part] at hsel
  simp only [hsel]

end Own

end Cert.KernelIdeal

end
-- ==== Proof.KBlock.lean ====
module

public import Idealize.ShloMosaic.Lib.Pipeline.ValueKit
public import proofs.«01_k».proof.Proof.KPick

/-! What one grid step of the kernel leaves in its two result blocks. -/

@[expose] public section

set_option maxRecDepth 16384

noncomputable section

namespace Cert.KernelIdeal

open Idealize.ShloMosaic Idealize.SL.Sem Cert.Otsu
open Facts₀ Facts

namespace Own

/-- The kernel's half sum of two comparisons is the grade. -/
theorem grade_half (x : EReal) (i j : ℕ) (hij : i ≤ j) (hj : j < 254) :
    ((FloatOps.sitofp FTy.f32 (BitVec.setWidth 32 (IntOp.cmpi CmpIPredicate.sge (level (x * top255)) (BitVec.ofNat 32 (i + 1)))) : Ideal .f32)
      + (FloatOps.sitofp FTy.f32 (BitVec.setWidth 32 (IntOp.cmpi CmpIPredicate.sge (level (x * top255)) (BitVec.ofNat 32 (j + 1)))) : Ideal .f32))
        * Ideal.ofBits .f32 1056964608#32 = grade x i j := by
  have e : ∀ y : BitVec 32, IntOp.cmpi CmpIPredicate.sge (level (x * top255)) y = BitVec.ofBool (y.sle (level (x * top255))) := fun y => rfl
  rw [e, e, flag_val, flag_val, half_eq]
  have hi1 := sle_level x (i + 1) (by omega) (by omega)
  have hj1 := sle_level x (j + 1) (by omega) (by omega)
  simp only [hi1, hj1]
  unfold grade
  have hmono : (((j + 1 : ℕ) / 255 : ℝ) : EReal) ≤ x → (((i + 1 : ℕ) / 255 : ℝ) : EReal) ≤ x := fun h => le_trans (by
    rw [EReal.coe_le_coe_iff]
    have : ((i + 1 : ℕ) : ℝ) ≤ ((j + 1 : ℕ) : ℝ) := by exact_mod_cast Nat.succ_le_succ hij
    exact div_le_div_of_nonneg_right this (by norm_num)) h
  by_cases h2 : (((j + 1 : ℕ) / 255 : ℝ) : EReal) ≤ x
  · rw [if_pos h2, if_pos (hmono h2), if_pos h2, show (1 : EReal) = ((1 : ℝ) : EReal) from rfl, ← EReal.coe_add, ← EReal.coe_mul]
    norm_num
  · by_cases h1 : (((i + 1 : ℕ) / 255 : ℝ) : EReal) ≤ x
    · rw [if_neg h2, if_neg h2, if_pos h1, if_pos h1]; simp
    · rw [if_neg h2, if_neg h2, if_neg h1, if_neg h1]; simp

/-- The kernel's sum of squares, when the least key names a pair. -/
theorem loss_at (v5 v41 : FVec Ideal S512x512 .f32) (v56 : IVec S512x512 32) (v236 : IVec S1x256x256 32) (x : Im)
    (hx : ∀ r c, v56 (ix2 r c) = level (x r c * top255)) (i j : ℕ) (hij : i ≤ j) (hj : j < 254)
    (hM : Finset.fold IntOp.minsi 2147483647#32 (fun x : Fin 256 × Fin 256 => v236 (ix3 0 x.1 x.2)) Finset.univ = key i j) (l : Fin 128) :
    Gen.k0_pay1 v5 v41 v56 v236 (ix3 0 0 l)
      = ∑ r, ∑ c, (grade (x r c) i j - v5 (ix2 r c) * v41 (ix2 r c)) * (grade (x r c) i j - v5 (ix2 r c) * v41 (ix2 r c)) := by
  pointwise [Gen.k0_pay1]
  simp only [hM, Scalar.addi, Scalar.shrsi, Scalar.andi]
  rw [key_row i j (by omega) (by omega), key_col i j (by omega) (by omega)]
  simp only [hx, grade_half _ i j hij hj]

/-- The kernel's grey level of a masked pixel. -/
theorem level_at (w v : FVec Ideal S512x512 .f32) (img lab : Im) (hw : ∀ r c, w (ix2 r c) = img r c)
    (hv : ∀ r c, Gen.k0_pay6 v (Scalar.ofBits .f32 0x00000000#32) (ix2 r c) = on lab r c) (r c : Fin 512) :
    Gen.k0_pay8 w v (Scalar.ofBits .f32 0x00000000#32) (ix2 r c) = level (img r c * on lab r c * top255) := by
  rw [← hv, ← hw]
  pointwise [Gen.k0_pay8, Gen.k0_pay7]
  rfl

section
variable (x0 x1 x2 : Vec Ideal S1x1x512x512 .f32)

/-- The plane of a block. -/
def plane (x : Vec Ideal S1x1x512x512 .f32) : Im := fun r c => x (ix4 0 0 r c)

theorem whole (x : Vec Ideal S1x1x512x512 .f32) : View.ld x Gen.r0_0 = x := View.ld_unit_lit _ x (by decide)

theorem img_at (r c : Fin 512) : Gen.k0_pay3 x2 (ix2 r c) = plane x2 r c := by
  pointwise [Gen.k0_pay3]
  rfl

theorem pred_at (r c : Fin 512) : Gen.k0_pay4 x0 (ix2 r c) = plane x0 r c := by
  pointwise [Gen.k0_pay4]
  rfl

/-- The second result block holds the number of masked pixels, in every lane. -/
theorem area_block (l : Fin 128) : Gen.out0_4 x0 x1 x2 (ix3 0 0 l) = area (plane x1) := by
  have e : Gen.out0_4 x0 x1 x2 = Gen.k0_pay2 (row (Gen.k0_pay3 (View.ld x2 Gen.r0_0)) (Gen.k0_pay5 (View.ld x1 Gen.r0_0))) :=
    View.canon_cons_unit_lit _ _ _ (by decide)
  rw [e, whole, whole]
  have e2 : ∀ v : FVec Ideal S1x256 .f32, Gen.k0_pay2 v (ix3 0 0 l) = ∑ _a : Fin 1, ∑ n : Fin 256, v (ix2 0 n) := by
    intro v; pointwise [Gen.k0_pay2]
  rw [e2, Finset.sum_const]
  rw [← tot_sum, tot_eq _ _ (plane x2) (plane x1) (img_at x2) (mask_at x1)]
  simp

/-- The first result block holds the sum of squared differences at the picked pair, in every lane. -/
theorem loss_block (h : area (plane x1) ≠ 0) : ∃ i j,
    IsPick (score (mass (plane x2) (plane x1)) (mean (plane x2) (plane x1)) (mean (plane x2) (plane x1) 255)) i j
      ∧ ∀ l : Fin 128, Gen.out0_3 x0 x1 x2 (ix3 0 0 l) = sqDiff (plane x0) (plane x2) (plane x1) i j := by
  generalize hw : Gen.k0_pay3 (F := Ideal) x2 = w
  generalize hv : Gen.k0_pay5 (F := Ideal) x1 = v
  have e : Gen.out0_3 x0 x1 x2 = Gen.k0_pay1 (Gen.k0_pay4 x0) (Gen.k0_pay6 v (Scalar.ofBits .f32 0x00000000#32))
      (Gen.k0_pay8 w v (Scalar.ofBits .f32 0x00000000#32))
      (Gen.k0_pay37 (Gen.k0_pay27 (tot w v) (wRow w v) (wShift w v)) (Gen.k0_pay29 (massRow w v)) (Gen.k0_pay32 (massRow w v))
        (Gen.k0_pay33 (massRow w v)) (Gen.k0_pay34 (tot w v) (massRow w v) (wRow w v) (wShift w v))
        (Gen.k0_pay35 (tot w v) (massRow w v) (wRow w v) (wShift w v)) (Gen.k0_pay36 (tot w v) (wRow w v) (wShift w v))) := by
    rw [← hw, ← hv]
    have e0 : Gen.out0_3 x0 x1 x2 = Gen.k0_pay1 (Gen.k0_pay4 (View.ld x0 Gen.r0_0))
      (Gen.k0_pay6 (Gen.k0_pay5 (View.ld x1 Gen.r0_0)) (Scalar.ofBits .f32 0x00000000#32))
      (Gen.k0_pay8 (Gen.k0_pay3 (View.ld x2 Gen.r0_0)) (Gen.k0_pay5 (View.ld x1 Gen.r0_0)) (Scalar.ofBits .f32 0x00000000#32)) _ :=
      View.canon_cons_unit_lit _ _ _ (by decide)
    rw [e0]
    unfold Gen.k0_pay54 Gen.k0_pay53 Gen.k0_pay52 Gen.k0_pay51 Gen.k0_pay50 Gen.k0_pay49 Gen.k0_pay48 Gen.k0_pay47 Gen.k0_pay46
      Gen.k0_pay45 Gen.k0_pay44 Gen.k0_pay43 Gen.k0_pay42 Gen.k0_pay41 Gen.k0_pay40 Gen.k0_pay39 Gen.k0_pay38
    rw [whole, whole, whole]
    unfold massRow wRow wShift tot
    rfl
  have hi : ∀ r c, w (ix2 r c) = plane x2 r c := fun r c => by rw [← hw]; exact img_at x2 r c
  have hm : ∀ r c, Gen.k0_pay6 v (Scalar.ofBits .f32 0x00000000#32) (ix2 r c) = on (plane x1) r c := fun r c => by
    rw [← hv]; exact mask_at x1 r c
  have hma := massRow_at w v (plane x2) (plane x1) hi hm
  have hme := meanRow_at w v (plane x2) (plane x1) hi hm
  have hme' : ∀ n : Fin 256, Gen.k0_pay26 (tot w v) (wRow w v) (wShift w v) (ix2 0 n) = mean (plane x2) (plane x1) n.val := hme
  rw [e]
  generalize massRow w v = M at *
  generalize tot w v = T at *
  generalize wRow w v = W at *
  generalize wShift w v = W' at *
  have hmono := mass_mono (plane x2) (plane x1) h
  obtain ⟨i, j, hp, hk⟩ := pick_at (Gen.k0_pay27 T W W') (Gen.k0_pay29 M) (Gen.k0_pay32 M)
        (Gen.k0_pay33 M) (Gen.k0_pay34 T M W W') (Gen.k0_pay35 T M W W') (Gen.k0_pay36 T W W')
        (mass (plane x2) (plane x1)) (mean (plane x2) (plane x1)) (mean (plane x2) (plane x1) 255)
        (by pointwise [Gen.k0_pay27]; exact hme' 255)
        (fun i j => by pointwise [Gen.k0_pay29, Gen.k0_pay28]; exact hma i)
        (fun i j => by pointwise [Gen.k0_pay32, Gen.k0_pay29, Gen.k0_pay28]; rw [hma, hma])
        (fun i j => by pointwise [Gen.k0_pay33, Gen.k0_pay28]; rw [hma])
        (fun i j => by pointwise [Gen.k0_pay34, Gen.k0_pay31, Gen.k0_pay30, Gen.k0_pay29, Gen.k0_pay28]; rw [hma, hme'])
        (fun i j => by
          pointwise [Gen.k0_pay35, Gen.k0_pay32, Gen.k0_pay31, Gen.k0_pay30, Gen.k0_pay29, Gen.k0_pay28]
          rw [hma, hma, hme', hme'])
        (fun i j => by pointwise [Gen.k0_pay36, Gen.k0_pay30, Gen.k0_pay27]; rw [hme', hme']; rfl)
        (hmono 0 0 le_rfl)
  refine ⟨i, j, hp, fun l => ?_⟩
  rw [loss_at _ _ _ _ (fun r c => plane x2 r c * on (plane x1) r c) (level_at w v _ _ hi hm) i j (hp.le hmono) hp.hj hk l]
  unfold sqDiff
  simp only [hm, pred_at]

end

end Own

end Cert.KernelIdeal

end
-- ==== Proof.KArrays.lean ====
module

public import proofs.«01_k».proof.Proof.KBlock

/-! The kernel's two result arrays after the run: entry `n` of each comes from image `n`. -/

@[expose] public section

set_option maxRecDepth 16384

noncomputable section

namespace Cert.KernelIdeal

open Idealize.ShloMosaic Idealize.SL.Sem Cert.Otsu
open Idealize.ShloMosaic.TcCoe
open Idealize.ShloMosaic.Pipeline (Dat)
open Facts₀ Facts

namespace Own

variable (m : (ℓ : Loc nD τ sig) → Buf (Elt Ideal) ℓ) (c : Dev nD)

/-- The grid step of image `n`. -/
def stepOf (n : Fin 8) : Fin cfg0.N := ⟨n.val, by have : cfg0.N = 8 := Gen.N_0; rw [this]; exact n.isLt⟩

/-- Image `n` of an argument. -/
def image (x : Vec Ideal S8x1x512x512 .f32) (n : Fin 8) : Im := fun r c => x (ix4 n 0 r c)

theorem offs0 (t : Fin cfg0.N) : win0_0.index t 0 * win0_0.size 0 = t.val ∧ win0_0.index t 1 * win0_0.size 1 = 0
    ∧ win0_0.index t 2 * win0_0.size 2 = 0 ∧ win0_0.index t 3 * win0_0.size 3 = 0 := by
  rcases Gen.fin_N0 t with rfl | rfl | rfl | rfl | rfl | rfl | rfl | rfl <;> decide +kernel

theorem offs3 (t : Fin cfg0.N) : win0_3.index t 0 * win0_3.size 0 = t.val ∧ win0_3.index t 1 * win0_3.size 1 = 0
    ∧ win0_3.index t 2 * win0_3.size 2 = 0 := by
  rcases Gen.fin_N0 t with rfl | rfl | rfl | rfl | rfl | rfl | rfl | rfl <;> decide +kernel

theorem exts3 (t : Fin cfg0.N) : win0_3.xsize (grid0.coords t) 0 = 1 ∧ win0_3.xsize (grid0.coords t) 1 = 1
    ∧ win0_3.xsize (grid0.coords t) 2 = 128 := by
  rcases Gen.fin_N0 t with rfl | rfl | rfl | rfl | rfl | rfl | rfl | rfl <;> decide +kernel

theorem offs4 (t : Fin cfg0.N) : win0_4.index t 0 * win0_4.size 0 = t.val ∧ win0_4.index t 1 * win0_4.size 1 = 0
    ∧ win0_4.index t 2 * win0_4.size 2 = 0 := by
  rcases Gen.fin_N0 t with rfl | rfl | rfl | rfl | rfl | rfl | rfl | rfl <;> decide +kernel

theorem exts4 (t : Fin cfg0.N) : win0_4.xsize (grid0.coords t) 0 = 1 ∧ win0_4.xsize (grid0.coords t) 1 = 1
    ∧ win0_4.xsize (grid0.coords t) 2 = 128 := by
  rcases Gen.fin_N0 t with rfl | rfl | rfl | rfl | rfl | rfl | rfl | rfl <;> decide +kernel

/-- The blocks of grid step `n` are the images number `n`. -/
theorem block0 (n : Fin 8) : plane (Gen.iblk m c 0 (stepOf n)) = image (m ((c : Thread nD τ).loc main_arg0)) n := by
  funext r cc
  have o := offs0 (stepOf n)
  refine congrArg (m ((c : Thread nD τ).loc main_arg0)) ?_
  funext a
  refine Fin.ext ?_
  match a with
  | ⟨0, _⟩ => show win0_0.index (stepOf n) 0 * win0_0.size 0 + 1 * 0 = n.val; rw [o.1]; rfl
  | ⟨1, _⟩ => show win0_0.index (stepOf n) 1 * win0_0.size 1 + 1 * 0 = 0; rw [o.2.1]
  | ⟨2, _⟩ => show win0_0.index (stepOf n) 2 * win0_0.size 2 + 1 * r.val = r.val; rw [o.2.2.1]; omega
  | ⟨3, _⟩ => show win0_0.index (stepOf n) 3 * win0_0.size 3 + 1 * cc.val = cc.val; rw [o.2.2.2]; omega

theorem block1 (n : Fin 8) : plane (Gen.iblk m c 1 (stepOf n)) = image (m ((c : Thread nD τ).loc main_arg1)) n := by
  funext r cc
  have o := offs0 (stepOf n)
  refine congrArg (m ((c : Thread nD τ).loc main_arg1)) ?_
  funext a
  refine Fin.ext ?_
  match a with
  | ⟨0, _⟩ => show win0_0.index (stepOf n) 0 * win0_0.size 0 + 1 * 0 = n.val; rw [o.1]; rfl
  | ⟨1, _⟩ => show win0_0.index (stepOf n) 1 * win0_0.size 1 + 1 * 0 = 0; rw [o.2.1]
  | ⟨2, _⟩ => show win0_0.index (stepOf n) 2 * win0_0.size 2 + 1 * r.val = r.val; rw [o.2.2.1]; omega
  | ⟨3, _⟩ => show win0_0.index (stepOf n) 3 * win0_0.size 3 + 1 * cc.val = cc.val; rw [o.2.2.2]; omega

theorem block2 (n : Fin 8) : plane (Gen.iblk m c 2 (stepOf n)) = image (m ((c : Thread nD τ).loc main_arg2)) n := by
  funext r cc
  have o := offs0 (stepOf n)
  refine congrArg (m ((c : Thread nD τ).loc main_arg2)) ?_
  funext a
  refine Fin.ext ?_
  match a with
  | ⟨0, _⟩ => show win0_0.index (stepOf n) 0 * win0_0.size 0 + 1 * 0 = n.val; rw [o.1]; rfl
  | ⟨1, _⟩ => show win0_0.index (stepOf n) 1 * win0_0.size 1 + 1 * 0 = 0; rw [o.2.1]
  | ⟨2, _⟩ => show win0_0.index (stepOf n) 2 * win0_0.size 2 + 1 * r.val = r.val; rw [o.2.2.1]; omega
  | ⟨3, _⟩ => show win0_0.index (stepOf n) 3 * win0_0.size 3 + 1 * cc.val = cc.val; rw [o.2.2.2]; omega

/-- What the first result array holds at image `n`, lane `l`. -/
def lossAt (n : Fin 8) (l : Fin 128) : EReal :=
  Gen.out0_3 (F := Ideal) (Gen.iblk m c 0 (stepOf n)) (Gen.iblk m c 1 (stepOf n)) (Gen.iblk m c 2 (stepOf n)) (ix3 0 0 l)

/-- What the second result array holds at image `n`, lane `l`. -/
def areaAt (n : Fin 8) (l : Fin 128) : EReal :=
  Gen.out0_4 (F := Ideal) (Gen.iblk m c 0 (stepOf n)) (Gen.iblk m c 1 (stepOf n)) (Gen.iblk m c 2 (stepOf n)) (ix3 0 0 l)

def lossArr : Buf (Elt Ideal) ((c : Thread nD τ).loc main_v0_0) := fun (ix : S8x1x128.Idx) => lossAt m c (ix 0) (ix 2)

def areaArr : Buf (Elt Ideal) ((c : Thread nD τ).loc main_v0_1) := fun (ix : S8x1x128.Idx) => areaAt m c (ix 0) (ix 2)

theorem flushed3 (t : Fin cfg0.N) : (Gen.dats m 0 c).flushed 3 t = (win0_3.blk t).view.read (Elt Ideal) (lossArr m c) := by
  show (cfg0.win 3).cut (grid0.coords t) ((Gen.dats m 0 c).after 3 t) = _
  rw [Gen.after0_3]
  have hN : cfg0.N = 8 := Gen.N_0
  have ht : stepOf ⟨t.val, by have := t.isLt; omega⟩ = t := rfl
  have o := offs3 t
  have x := exts3 t
  funext y
  have y0 : (y 0).val < 1 := x.1 ▸ (y 0).isLt
  have y1 : (y 1).val < 1 := x.2.1 ▸ (y 1).isLt
  have y2 : (y 2).val < 128 := x.2.2 ▸ (y 2).isLt
  have e : ((win0_3.blk t).view.read (Elt Ideal) (lossArr m c)) y = lossAt m c ⟨t.val, by have := t.isLt; omega⟩ ⟨(y 2).val, y2⟩ := by
    show lossAt m c ⟨win0_3.index t 0 * win0_3.size 0 + 1 * (y 0).val, _⟩ ⟨win0_3.index t 2 * win0_3.size 2 + 1 * (y 2).val, _⟩ = _
    congr 1
    · apply Fin.ext; simp only [o.1]; omega
    · apply Fin.ext; simp only [o.2.2]; omega
  rw [e]
  unfold lossAt
  rw [ht]
  show Gen.out0_3 _ _ _ _ = Gen.out0_3 _ _ _ _
  congr 1
  funext a
  refine Fin.ext ?_
  match a with
  | ⟨0, _⟩ => show (y 0).val = 0; omega
  | ⟨1, _⟩ => show (y 1).val = 0; omega
  | ⟨2, _⟩ => rfl

theorem flushed4 (t : Fin cfg0.N) : (Gen.dats m 0 c).flushed 4 t = (win0_4.blk t).view.read (Elt Ideal) (areaArr m c) := by
  show (cfg0.win 4).cut (grid0.coords t) ((Gen.dats m 0 c).after 4 t) = _
  rw [Gen.after0_4]
  have hN : cfg0.N = 8 := Gen.N_0
  have ht : stepOf ⟨t.val, by have := t.isLt; omega⟩ = t := rfl
  have o := offs4 t
  have x := exts4 t
  funext y
  have y0 : (y 0).val < 1 := x.1 ▸ (y 0).isLt
  have y1 : (y 1).val < 1 := x.2.1 ▸ (y 1).isLt
  have y2 : (y 2).val < 128 := x.2.2 ▸ (y 2).isLt
  have e : ((win0_4.blk t).view.read (Elt Ideal) (areaArr m c)) y = areaAt m c ⟨t.val, by have := t.isLt; omega⟩ ⟨(y 2).val, y2⟩ := by
    show areaAt m c ⟨win0_4.index t 0 * win0_4.size 0 + 1 * (y 0).val, _⟩ ⟨win0_4.index t 2 * win0_4.size 2 + 1 * (y 2).val, _⟩ = _
    congr 1
    · apply Fin.ext; simp only [o.1]; omega
    · apply Fin.ext; simp only [o.2.2]; omega
  rw [e]
  unfold areaAt
  rw [ht]
  show Gen.out0_4 _ _ _ _ = Gen.out0_4 _ _ _ _
  congr 1
  funext a
  refine Fin.ext ?_
  match a with
  | ⟨0, _⟩ => show (y 0).val = 0; omega
  | ⟨1, _⟩ => show (y 1).val = 0; omega
  | ⟨2, _⟩ => rfl

/-- The blocks of the first result tile its array. -/
theorem cover3 (i : S8x1x128.Idx) : ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 128 := (i 2).isLt
  have hN : cfg0.N = 8 := Gen.N_0
  refine ⟨⟨(i 0).val, by omega⟩, Gen.flush0_3 _, ?_⟩
  generalize ht : (⟨(i 0).val, by omega⟩ : Fin cfg0.N) = t
  have hv : t.val = (i 0).val := by rw [← ht]
  have o := offs3 t
  have x := exts3 t
  show i ∈ ((View.whole main_v0_0).slice (win0_3.rect t)).set
  rw [View.set_slice_whole, Rect.mem_set_unit]
  intro a
  match a with
  | ⟨0, _⟩ =>
    show win0_3.index t 0 * win0_3.size 0 ≤ (i 0).val ∧ (i 0).val < win0_3.index t 0 * win0_3.size 0 + win0_3.xsize (grid0.coords t) 0
    rw [o.1, x.1]; omega
  | ⟨1, _⟩ =>
    show win0_3.index t 1 * win0_3.size 1 ≤ (i 1).val ∧ (i 1).val < win0_3.index t 1 * win0_3.size 1 + win0_3.xsize (grid0.coords t) 1
    rw [o.2.1, x.2.1]; omega
  | ⟨2, _⟩ =>
    show win0_3.index t 2 * win0_3.size 2 ≤ (i 2).val ∧ (i 2).val < win0_3.index t 2 * win0_3.size 2 + win0_3.xsize (grid0.coords t) 2
    rw [o.2.2, x.2.2]; omega

/-- The first result array after the run. -/
theorem final3 : (Gen.dats m 0 c).arrAt 3 cfg0.N = lossArr m c :=
  (Gen.dats m 0 c).arrAt_eq_of_cover 3 (lossArr m c) (fun t _ => flushed3 m c t) cover3

/-- The blocks of the second result tile its array. -/
theorem cover4 (i : S8x1x128.Idx) : ∃ t : Fin cfg0.N, (cfg0.win 4).flush t = true ∧ i ∈ ((cfg0.win 4).blk t).view.set := by
  have h0 : (i 0).val < 8 := (i 0).isLt
  have h1 : (i 1).val < 1 := (i 1).isLt
  have h2 : (i 2).val < 128 := (i 2).isLt
  have hN : cfg0.N = 8 := Gen.N_0
  refine ⟨⟨(i 0).val, by omega⟩, Gen.flush0_4 _, ?_⟩
  generalize ht : (⟨(i 0).val, by omega⟩ : Fin cfg0.N) = t
  have hv : t.val = (i 0).val := by rw [← ht]
  have o := offs4 t
  have x := exts4 t
  show i ∈ ((View.whole main_v0_1).slice (win0_4.rect t)).set
  rw [View.set_slice_whole, Rect.mem_set_unit]
  intro a
  match a with
  | ⟨0, _⟩ =>
    show win0_4.index t 0 * win0_4.size 0 ≤ (i 0).val ∧ (i 0).val < win0_4.index t 0 * win0_4.size 0 + win0_4.xsize (grid0.coords t) 0
    rw [o.1, x.1]; omega
  | ⟨1, _⟩ =>
    show win0_4.index t 1 * win0_4.size 1 ≤ (i 1).val ∧ (i 1).val < win0_4.index t 1 * win0_4.size 1 + win0_4.xsize (grid0.coords t) 1
    rw [o.2.1, x.2.1]; omega
  | ⟨2, _⟩ =>
    show win0_4.index t 2 * win0_4.size 2 ≤ (i 2).val ∧ (i 2).val < win0_4.index t 2 * win0_4.size 2 + win0_4.xsize (grid0.coords t) 2
    rw [o.2.2, x.2.2]; omega

/-- The second result array after the run. -/
theorem final4 : (Gen.dats m 0 c).arrAt 4 cfg0.N = areaArr m c :=
  (Gen.dats m 0 c).arrAt_eq_of_cover 4 (areaArr m c) (fun t _ => flushed4 m c t) cover4

end Own

end Cert.KernelIdeal

end
-- ==== Proof.Loss.lean ====
module

public import proofs.«01_k».proof.Proof.Spec

/-! The loss of a batch, from each image's sum of squares and number of masked pixels. -/

@[expose] public section

noncomputable section

namespace Cert.Otsu

open Idealize.ShloMosaic

open Classical in
/-- The mean, over the images whose mask is not empty, of the mean squared difference over the mask. -/
def meanLoss (sq num : Fin 8 → EReal) : EReal :=
  Ideal.div (∑ n, if eps < num n + eps then Ideal.div (sq n) (num n + eps) else 0)
    (max (∑ n, if eps < num n + eps then 1 else 0) 1)

/-- The sum of squares of an image with an empty mask does not matter. -/
theorem meanLoss_congr (sq sq' num : Fin 8 → EReal) (h : ∀ n, num n ≠ 0 → sq n = sq' n) : meanLoss sq num = meanLoss sq' num := by
  unfold meanLoss
  congr 1
  refine Finset.sum_congr rfl fun n _ => ?_
  by_cases h0 : num n = 0
  · rw [h0, zero_add, if_neg (lt_irrefl _), if_neg (lt_irrefl _)]
  · rw [h n h0]

end Cert.Otsu

end
-- ==== Proof.KRun.lean ====
module

public import proofs.«01_k».proof.Proof.KArrays
public import proofs.«01_k».proof.Proof.Loss
public import Idealize.ShloMosaic.Lib.StableHlo.ReadAt

/-! The kernel's run: the host code after the call, and the loss it leaves. -/

@[expose] public section

set_option maxRecDepth 16384

noncomputable section

namespace Cert.KernelIdeal

open Idealize.ShloMosaic Idealize.SL.Sem Cert.Otsu
open Idealize.ShloMosaic.TcCoe
open Facts₀ Facts

namespace Own

/-- The host code after the call, read at its one result. -/
theorem tail_read (V : Valuation τ sig (Elt Ideal)) :
    (StableHlo.after (List.flatten [Gen.hostOps1, Gen.hostOps1_1, Gen.hostOps1_2]) V (Proc.devRef .tc main_v15) ix0 : EReal)
      = meanLoss (fun n => V (Proc.devRef .tc main_v0_0) (ix3 n 0 0)) (fun n => V (Proc.devRef .tc main_v0_1) (ix3 n 0 0)) := by
  dsimp only [List.flatten, List.append]
  after_reads_at
  try simp only [id]
  pointwise
  simp only [flag_val', decide_eq_true_eq]
  unfold meanLoss
  congr

variable (m : (ℓ : Loc nD τ sig) → Buf (Elt Ideal) ℓ) (ρ : Dev nD → PrngReg)

theorem arr_inj : Function.Injective (Pipeline.arrRef spec0) := by decide

/-- After the run the result is the loss of the two arrays' first lanes, and the arguments are unchanged. -/
theorem loss_run : θ_run defs (onTc (τ := τ) (main (F := Ideal))) ⟨m, fun _ => 0, ρ⟩ fun r => ∀ c : Dev nD,
      (r.2.mem ((c.tc : Thread nD τ).loc main_v15) ix0 : EReal) = meanLoss (fun n => lossAt m c n 0) (fun n => areaAt m c n 0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨?_, ?_, ?_, ?_⟩) (Gen.run_main m ρ)
  · have e := (h c).2 main_v15 (by decide)
    rw [e]
    refine (tail_read _).trans ?_
    have a3 := (Pipeline.withArrays_arr spec0 arr_inj c (Gen.V0 m c) (fun w => (Gen.dats m 0 c).arrAt w cfg0.N) 3).trans (final3 m c)
    have a4 := (Pipeline.withArrays_arr spec0 arr_inj c (Gen.V0 m c) (fun w => (Gen.dats m 0 c).arrAt w cfg0.N) 4).trans (final4 m c)
    exact congrArg₂ meanLoss (funext fun n => congrFun a3 (ix3 n 0 0)) (funext fun n => congrFun a4 (ix3 n 0 0))
  · exact ((h c).1 0).trans (((Gen.dats m 0 c).arrAt_in 0 rfl _).trans ((Gen.A_eq m c 0).trans (Gen.V_main_arg0 m c)))
  · exact ((h c).1 1).trans (((Gen.dats m 0 c).arrAt_in 1 rfl _).trans ((Gen.A_eq m c 1).trans (Gen.V_main_arg1 m c)))
  · exact ((h c).1 2).trans (((Gen.dats m 0 c).arrAt_in 2 rfl _).trans ((Gen.A_eq m c 2).trans (Gen.V_main_arg2 m c)))

end Own

end Cert.KernelIdeal

end
-- ==== Proof.RefMask.lean ====
module

public import proofs.«01_k».proof.Proof.RefOps
public import proofs.«01_k».proof.Proof.Spec
public import Idealize.ShloMosaic.Lib.StableHlo.ReadAt
public import Idealize.ShloMosaic.Lib.Pointwise

/-! The reference's dilated mask: a sum of 25 shifted copies of the zero-padded labels is positive where some label of the window is. -/

@[expose] public section

set_option maxRecDepth 16384

noncomputable section

namespace Cert.ReferenceIdeal

open Idealize.ShloMosaic Idealize.SL.Sem Cert.Otsu

namespace Own

/-- The labels with a border of two zeros, at a padded position. -/
def padded (lab : Im) (r c : Fin 516) : EReal :=
  if h : (2 ≤ r.val ∧ r.val - 2 < 512) ∧ (2 ≤ c.val ∧ c.val - 2 < 512) then lab ⟨r.val - 2, h.1.2⟩ ⟨c.val - 2, h.2.2⟩ else 0

theorem padded_nonneg (lab : Im) (h : ∀ r c, 0 ≤ lab r c) (r c : Fin 516) : 0 ≤ padded lab r c := by
  unfold padded; split_ifs
  · exact h _ _
  · exact le_rfl

/-- A sum of numbers that are not negative is positive exactly when one of them is. -/
theorem sum_pos_iff (f : Fin 5 → EReal) (h : ∀ a, 0 ≤ f a) : 0 < ∑ a, f a ↔ ∃ a, 0 < f a := by
  have hs : 0 ≤ ∑ a, f a := Finset.sum_nonneg fun a _ => h a
  rw [hs.lt_iff_ne, ne_comm, Ne, Finset.sum_eq_zero_iff_of_nonneg fun a _ => h a]
  simp only [Finset.mem_univ, true_implies, not_forall]
  exact exists_congr fun a => by rw [(h a).lt_iff_ne, ne_comm]

/-- Some padded label at one of the 25 offsets from the pixel is positive exactly when some label of the window is. -/
theorem hit_iff (lab : Im) (r c : Fin 512) :
    (∃ a b : Fin 5, 0 < padded lab ⟨a.val + r.val, by omega⟩ ⟨b.val + c.val, by omega⟩) ↔ hit lab r c := by
  unfold padded hit near
  constructor
  · rintro ⟨a, b, h⟩
    rw [pos_dite] at h
    obtain ⟨h1, h2⟩ := h
    refine ⟨_, _, ?_, ?_, h2⟩ <;> simp only at h1 ⊢ <;> omega
  · rintro ⟨r', c', h1, h2, h3⟩
    refine ⟨⟨r'.val + 2 - r.val, by omega⟩, ⟨c'.val + 2 - c.val, by omega⟩, ?_⟩
    rw [pos_dite]
    refine ⟨by simp only; omega, ?_⟩
    convert h3 using 2
    · apply Fin.ext; simp only; omega
    · apply Fin.ext; simp only; omega

/-- The sum of the 25 shifted padded labels is positive exactly when some label of the window is. -/
theorem window_pos (P : Fin 516 → Fin 516 → EReal) (lab : Im) (hP : ∀ r c, P r c = padded lab r c) (h : ∀ r c, 0 ≤ lab r c) (r c : Fin 512) :
    0 < ∑ a : Fin 5, ∑ b : Fin 5, P ⟨a.val + r.val, by omega⟩ ⟨b.val + c.val, by omega⟩ ↔ hit lab r c := by
  have hP' : ∀ r c, 0 ≤ P r c := fun r c => by rw [hP]; exact padded_nonneg lab h r c
  rw [sum_pos_iff _ fun a => Finset.sum_nonneg fun b _ => hP' _ _, ← hit_iff]
  refine exists_congr fun a => ?_
  rw [sum_pos_iff _ fun b => hP' _ _]
  simp only [hP]

/-- The padded labels. -/
theorem pad_at (V : Valuation τ sig (Elt Ideal)) (L : Fin 8 → Im)
    (hL : ∀ n r c, (V (Proc.devRef .tc main_arg1) (ix4 n 0 r c) : EReal) = L n r c) (n : Fin 8) (r c : Fin 516) :
    (StableHlo.after segA V (Proc.devRef .tc main_v0) (ix4 n 0 r c) : EReal) = padded (L n) r c := by
  after_reads_at
  pointwise
  have z : (FloatOps.sitofp FTy.f32 0#32 : Ideal .f32) = (0 : EReal) := (sitofp_val 0 (by norm_num)).trans (by simp)
  unfold padded
  by_cases h : (2 ≤ r.val ∧ r.val - 2 < 512) ∧ (2 ≤ c.val ∧ c.val - 2 < 512)
  · rw [dif_pos h, dif_pos h]; exact hL _ _ _
  · rw [dif_neg h, dif_neg h]; exact z

theorem mask_at (V : Valuation τ sig (Elt Ideal)) (L : Fin 8 → Im) (hnn : ∀ n r c, 0 ≤ L n r c)
    (hP : ∀ n r c, (V (Proc.devRef .tc main_v0) (ix4 n 0 r c) : EReal) = padded (L n) r c) (n : Fin 8) (r c : Fin 512) :
    (StableHlo.after segB V (Proc.devRef .tc main_v54) (ix4 n 0 r c) : EReal) = on (L n) r c := by
  after_reads_at
  pointwise
  rw [flag_val']
  simp only [decide_eq_true_eq]
  unfold on
  classical
  have e := window_pos (fun r c => V (Proc.devRef .tc main_v0) (ix4 n 0 r c)) (L n) (hP n) (hnn n) r c
  refine if_congr (Iff.trans (iff_of_eq (congrArg (0 < ·) ?_)) e) rfl rfl
  simp only [Fin.sum_univ_five, ← add_assoc]
  simp

/-- The masked images and predictions. -/
theorem masked_at (V : Valuation τ sig (Elt Ideal)) (n : Fin 8) (r c : Fin 512) (o x y : EReal)
    (ho : (StableHlo.after segB V (Proc.devRef .tc main_v54) (ix4 n 0 r c) : EReal) = o)
    (hx : (V (Proc.devRef .tc main_arg2) (ix4 n 0 r c) : EReal) = x)
    (hy : (V (Proc.devRef .tc main_arg0) (ix4 n 0 r c) : EReal) = y) :
    (StableHlo.after segB V (Proc.devRef .tc main_v55) (ix4 n 0 r c) : EReal) = x * o
      ∧ (StableHlo.after segB V (Proc.devRef .tc main_v56) (ix4 n 0 r c) : EReal) = y * o := by
  subst ho hx hy
  constructor <;> after_reads_simp <;> rfl

end Own

end Cert.ReferenceIdeal

end
-- ==== Proof.RefHist.lean ====
module

public import proofs.«01_k».proof.Proof.RefOps
public import proofs.«01_k».proof.Proof.Spec
public import Idealize.ShloMosaic.Lib.StableHlo.ReadAt
public import Idealize.ShloMosaic.Lib.Pointwise
public import Idealize.ShloMosaic.Lib.Routing.OpsPair

/-! The reference's histogram: the scatter adds the mask of each pixel to the entry of its image and its bin. -/

@[expose] public section

set_option maxRecDepth 16384

noncomputable section

namespace Cert.ReferenceIdeal

open Idealize.ShloMosaic Idealize.SL.Sem Cert.Otsu

namespace Own

open Routing

/-- An index word that is not negative is kept by the wrap. -/
theorem wrap_small (x a : BitVec 32) (h : 0 ≤ x.toInt) : Scalar.select (IntOp.cmpi .slt x 0#32) a x = x :=
  wrap_of_lt x a (by rw [BitVec.toInt_eq_toNat_cond] at h; have := x.isLt; split_ifs at h <;> omega)

/-- The image number of each update. -/
theorem image_at (V : Valuation τ sig (Elt Ideal)) (n : Fin 8) (r c : Fin 512) :
    (StableHlo.after segC V (Proc.devRef .tc main_v79) (ix4 n r c 0) : BitVec 32) = BitVec.ofNat 32 n.val := by
  after_reads_at
  pointwise
  refine wrap_small _ _ ?_
  rw [BitVec.toInt_eq_toNat_cond, BitVec.toNat_ofNat]; split_ifs <;> omega

/-- The bin of each update. -/
theorem level_at (V : Valuation τ sig (Elt Ideal)) (n : Fin 8) (r c : Fin 512) (x : EReal)
    (hx : (V (Proc.devRef .tc main_v55) (ix4 n 0 r c) : EReal) = x) :
    (StableHlo.after segC V (Proc.devRef .tc main_v80) (ix4 n r c 0) : BitVec 32)
      = level (x * top255 * spread) := by
  after_reads_at
  simp only [id]
  pointwise
  rw [hx]
  refine (wrap_small _ _ ?_).trans rfl
  rw [minsi_toInt, maxsi_toInt]
  have e1 : (255#32).toInt = 255 := by decide
  have e2 : (0#32).toInt = 0 := by decide
  rw [e1, e2]; omega

/-- The value of each update. -/
theorem weight_at (V : Valuation τ sig (Elt Ideal)) (n : Fin 8) (r c : Fin 512) :
    (StableHlo.after segC V (Proc.devRef .tc main_v58) (ix3 n r c) : EReal) = V (Proc.devRef .tc main_v54) (ix4 n 0 r c) := by
  after_reads_at

/-- The histograms start at zero. -/
theorem start_at (V : Valuation τ sig (Elt Ideal)) (n : Fin 8) (b : Fin 256) :
    (StableHlo.after segC V (Proc.devRef .tc main_v67) (ix2 n b) : EReal) = (0 : EReal) := by
  after_reads_at

/-- An update of the scatter lands at the entry its two index words name. -/
theorem lands (idx : IVec S8x512x512x2 32) (n' : Fin 8) (r c : Fin 512) (n : Fin 8) (b : Fin 256) :
    scatter_S8x256_S8x512x512x2_S8x512x512_n_01_01_3.resultIdx? (ix3 n' r c) idx = some (ix2 n b)
      ↔ (idx (ix4 n' r c 0)).toInt = n.val ∧ (idx (ix4 n' r c 1)).toInt = b.val := by
  have h : ∀ q : Fin 2, scatter_S8x256_S8x512x512x2_S8x512x512_n_01_01_3.start (ix3 n' r c) idx q
      + (scatter_S8x256_S8x512x512x2_S8x512x512_n_01_01_3.window (ix3 n' r c) q : Int) = (idx (ix4 n' r c q)).toInt := by
    intro q
    fin_cases q
    · unfold ScatterDims.start ScatterDims.window
      rw [dif_pos (by decide), dif_neg (by decide)]
      refine (Int.add_zero _).trans (congrArg (fun k => (idx k).toInt) (funext fun b => ?_))
      fin_cases b <;> rfl
    · unfold ScatterDims.start ScatterDims.window
      rw [dif_pos (by decide), dif_neg (by decide)]
      refine (Int.add_zero _).trans (congrArg (fun k => (idx k).toInt) (funext fun b => ?_))
      fin_cases b <;> rfl
  rw [resultIdx?_eq_some]
  constructor
  · intro k; exact ⟨(h 0).symm.trans (k 0), (h 1).symm.trans (k 1)⟩
  · intro k a
    match a with
    | ⟨0, _⟩ => exact (h 0).trans k.1
    | ⟨1, _⟩ => exact (h 1).trans k.2

/-- The scatter read at one entry: what was there plus the updates whose index words name the entry. -/
theorem scatter_sum (x : FVec Ideal S8x256 .f32) (idx : IVec S8x512x512x2 32) (u : FVec Ideal S8x512x512 .f32) (n : Fin 8) (b : Fin 256) :
    (Host.scatterAdd (F := Ideal) scatter_S8x256_S8x512x512x2_S8x512x512_n_01_01_3 x idx u (ix2 n b) : EReal)
      = x (ix2 n b) + ∑ n' : Fin 8, ∑ r : Fin 512, ∑ c : Fin 512,
        if (idx (ix4 n' r c 0)).toInt = n.val ∧ (idx (ix4 n' r c 1)).toInt = b.val then u (ix3 n' r c) else 0 := by
  show x (ix2 n b) + ∑ j ∈ Finset.univ.filter (fun j => scatter_S8x256_S8x512x512x2_S8x512x512_n_01_01_3.resultIdx? j idx = some (ix2 n b)), u j = _
  rw [Finset.sum_filter, sum_idx3]
  simp only [lands]

/-- The first of two stacked index planes. -/
theorem pair_zero (x y : IVec S8x512x512x1 32) (h) (n : Fin 8) (r c : Fin 512) :
    concatenate S8x512x512x2 3 [⟨S8x512x512x1, x⟩, ⟨S8x512x512x1, y⟩] h (ix4 n r c 0) = x (ix4 n r c 0) := by
  pointwise

/-- The second of two stacked index planes. -/
theorem pair_one (x y : IVec S8x512x512x1 32) (h) (n : Fin 8) (r c : Fin 512) :
    concatenate S8x512x512x2 3 [⟨S8x512x512x1, x⟩, ⟨S8x512x512x1, y⟩] h (ix4 n r c 1) = y (ix4 n r c 0) := by
  pointwise

theorem image_toInt (n : Fin 8) : (BitVec.ofNat 32 n.val).toInt = n.val := by
  rw [BitVec.toInt_eq_toNat_cond, BitVec.toNat_ofNat]; split_ifs <;> omega

/-- A word names an entry of the histogram, read signed, exactly when it is the entry's number. -/
theorem bin_toInt (w : BitVec 32) (b : Fin 256) : w.toInt = b.val ↔ w = BitVec.ofNat 32 b.val := by
  have e : (BitVec.ofNat 32 b.val).toInt = b.val := by
    rw [BitVec.toInt_eq_toNat_cond, BitVec.toNat_ofNat]; split_ifs <;> omega
  rw [← e, BitVec.toInt_inj]

/-- The histograms. -/
theorem hist_at (V : Valuation τ sig (Elt Ideal)) (I L : Fin 8 → Im)
    (h67 : ∀ n b, (V (Proc.devRef .tc main_v67) (ix2 n b) : EReal) = (0 : EReal))
    (h79 : ∀ n r c, (V (Proc.devRef .tc main_v79) (ix4 n r c 0) : BitVec 32) = BitVec.ofNat 32 n.val)
    (h80 : ∀ n r c, (V (Proc.devRef .tc main_v80) (ix4 n r c 0) : BitVec 32) = bin (I n) (L n) r c)
    (h58 : ∀ n r c, (V (Proc.devRef .tc main_v58) (ix3 n r c) : EReal) = on (L n) r c) (n : Fin 8) (b : Fin 256) :
    (StableHlo.after segD V (Proc.devRef .tc main_v82) (ix2 n b) : EReal) = hist (I n) (L n) b.val := by
  after_reads_at
  refine (scatter_sum _ _ _ n b).trans ?_
  rw [h67, zero_add, Finset.sum_eq_single n]
  · unfold hist
    refine Finset.sum_congr rfl fun r _ => Finset.sum_congr rfl fun c _ => ?_
    refine if_congr ?_ (h58 n r c) rfl
    rw [pair_zero, pair_one]
    rw [show (StableHlo.upto segD V 0 (Proc.devRef .tc main_v79) (ix4 n r c 0) : BitVec 32) = _ from h79 n r c,
      show (StableHlo.upto segD V 0 (Proc.devRef .tc main_v80) (ix4 n r c 0) : BitVec 32) = _ from h80 n r c, image_toInt, bin_toInt]
    simp
  · intro n' _ hn
    refine Finset.sum_eq_zero fun r _ => Finset.sum_eq_zero fun c _ => if_neg fun hh => hn ?_
    have h1 := hh.1
    rw [pair_zero, show (StableHlo.upto segD V 0 (Proc.devRef .tc main_v79) (ix4 n' r c 0) : BitVec 32) = _ from h79 n' r c, image_toInt] at h1
    exact Fin.ext (by exact_mod_cast h1)
  · intro hn; exact absurd (Finset.mem_univ n) hn

end Own

end Cert.ReferenceIdeal

end
-- ==== Proof.RefScan.lean ====
module

public import proofs.«01_k».proof.Proof.RefOps
public import proofs.«01_k».proof.Proof.Count
public import Idealize.ShloMosaic.Lib.StableHlo.ReadAt
public import Idealize.ShloMosaic.Lib.Pointwise

/-! The reference's cumulative mass and cumulative mean: sums over a window that ends at each level. -/

@[expose] public section

set_option maxRecDepth 16384

noncomputable section

namespace Cert.ReferenceIdeal

open Idealize.ShloMosaic Idealize.SL.Sem Cert.Otsu

namespace Own

/-- A left fold of sums is the starting value plus the sum. -/
theorem foldl_sum {N : ℕ} (g : Fin N → EReal) (v : EReal) : (List.finRange N).foldl (fun r n => r + g n) v = v + ∑ n, g n := by
  have h : ∀ (l : List (Fin N)) (v : EReal), l.foldl (fun r n => r + g n) v = v + (l.map g).sum := by
    intro l
    induction l with
    | nil => intro v; simp
    | cons a l ih => intro v; rw [List.foldl_cons, ih, List.map_cons, List.sum_cons, add_assoc]
  rw [h, ← List.ofFn_eq_map, List.sum_ofFn]

/-- The window of 256 that ends at level `k`, its out-of-range positions counted as zero, holds the cumulative sum. -/
theorem window_cum (X : ℕ → EReal) (k : Fin 256) :
    (∑ t : Fin 256, if 255 ≤ k.val + t.val then X (k.val + t.val - 255) else 0) = cum X k.val := by
  rw [← win_cum X 256 k.val k.isLt, win, ← Finset.sum_range_reflect, Finset.sum_range]
  refine Finset.sum_congr rfl fun t _ => ?_
  have := t.isLt
  refine if_congr (by omega) (congrArg X (by omega)) rfl

/-- A running-window sum read at one entry: the starting value, and over the window the operand's elements, the starting value in place of
    each position outside the operand. -/
theorem window_sum {s t u : Shape} (window strides lo hi : Fin s.rank → ℕ) (x : FVec Ideal s .f32) (init : FVec Ideal u .f32)
    (h : s.ReduceWindows window strides lo hi t) (hu : 0 < u.numel) (j : t.Idx) :
    (Host.reduceWindowAdd (F := Ideal) window strides lo hi x init h hu j : EReal)
      = init (Shape.Idx.first hu) + ∑ p : (⟨s.rank, window⟩ : Shape).Idx,
        if hin : ∀ a, lo a ≤ (j (a.cast h.1.symm)).val * strides a + (p a).val
            ∧ (j (a.cast h.1.symm)).val * strides a + (p a).val - lo a < s.size a
        then (x (fun a => ⟨(j (a.cast h.1.symm)).val * strides a + (p a).val - lo a, (hin a).2⟩) : EReal)
        else init (Shape.Idx.first hu) := by
  rw [← Equiv.sum_comp (⟨s.rank, window⟩ : Shape).rowMajor.symm, ← foldl_sum]
  refine (show _ = Host.reduceWindow (s := s) (t := t) (fun a b : EReal => a + b) window strides lo hi x (fun _ : S_.Idx => init (Shape.Idx.first hu)) h (by decide) j from rfl).trans ?_
  unfold Host.reduceWindow
  dsimp only
  congr
  funext r n
  congr

/-- The running sum along the second axis. -/
theorem scan_at (x : FVec Ideal S8x256 .f32) (init : FVec Ideal S_ .f32) (h) (hu) (X : ℕ → EReal) (n : Fin 8)
    (hx : ∀ m : Fin 256, (x (ix2 n m) : EReal) = X m.val) (hi : (init (Shape.Idx.first hu) : EReal) = (0 : EReal)) (k : Fin 256) :
    (Host.reduceWindowAdd (F := Ideal) (t := S8x256) ![1, 256] ![1, 1] ![0, 255] ![0, 0] x init h hu (ix2 n k) : EReal) = cum X k.val := by
  rw [← window_cum]
  refine (window_sum (s := S8x256) (t := S8x256) ![1, 256] ![1, 1] ![0, 255] ![0, 0] x init h hu (ix2 n k)).trans ?_
  rw [hi, zero_add]
  have hk := k.isLt
  refine (sum_idx2 (n0 := 1) (n1 := 256) _).trans ?_
  rw [Fin.sum_univ_one]
  refine Finset.sum_congr rfl fun t _ => ?_
  have ht := t.isLt
  by_cases hc : 255 ≤ k.val + t.val
  · rw [if_pos hc, dif_pos]
    · rw [← hx ⟨k.val + t.val - 255, by omega⟩]
      refine congrArg x (funext fun a => Fin.ext ?_)
      match a with
      | ⟨0, _⟩ => show n.val * 1 + 0 - 0 = n.val; omega
      | ⟨1, _⟩ => show k.val * 1 + t.val - 255 = k.val + t.val - 255; omega
    · intro a
      match a with
      | ⟨0, _⟩ => show 0 ≤ n.val * 1 + 0 ∧ n.val * 1 + 0 - 0 < 8; omega
      | ⟨1, _⟩ => show 255 ≤ k.val * 1 + t.val ∧ k.val * 1 + t.val - 255 < 256; omega
  · rw [if_neg hc, dif_neg]
    intro hin
    have h1 : 255 ≤ k.val * 1 + t.val := (hin 1).1
    omega

/-- A row divided by its total, read at one level. -/
theorem share_at (x : FVec Ideal S8x256 .f32) (X : ℕ → EReal) (n : Fin 8) (hx : ∀ m : Fin 256, (x (ix2 n m) : EReal) = X m.val) (h1 : S8x1.BroadcastsInDim S8x256 ![0, 1])
    (h2 : S8.BroadcastsInDim S8x1 ![0]) (h3 : S8x256.ReducesTo [1] S8) (h4 : 0 < S_.numel) (m : Fin 256) :
    (Host.divf (F := Ideal) x (broadcastInDim S8x256 ![0, 1] h1 (broadcastInDim S8x1 ![0] h2 (Host.reduceAdd (F := Ideal) x (constant S_ FTy.f32 0#32) h3 h4))) (ix2 n m) : EReal)
      = Ideal.div (X m.val) (∑ b ∈ Finset.range 256, X b) := by
  pointwise
  rw [hx, Finset.sum_range]
  simp only [hx]

/-- The level numbers as a plane. -/
theorem ramp_at (h1 : S1x256.BroadcastsInDim S8x256 ![0, 1]) (h2 : S256.BroadcastsInDim S1x256 ![1]) (n : Fin 8) (m : Fin 256) :
    (broadcastInDim S8x256 ![0, 1] h1 (broadcastInDim S1x256 ![1] h2 (sitofp (F := Ideal) FTy.f32 (iotaInDim S256 32 0))) (ix2 n m) : EReal)
      = ((m.val : ℝ) : EReal) := by
  pointwise
  exact sitofp_val m.val (by have := m.isLt; omega)

/-- The scan's starting value is zero. -/
theorem start_zero (h : S_.BroadcastsInDim S_ ![]) (hu : 0 < S_.numel) : ((broadcastInDim S_ ![] h (constant (F := Ideal) S_ FTy.f32 0#32)) (Shape.Idx.first hu) : EReal) = (0 : EReal) := by
  rw [show Shape.Idx.first hu = ix0 from funext fun a => a.elim0]
  pointwise

/-- The cumulative mass, where the mask holds some pixel. -/
theorem mass_at (V : Valuation τ sig (Elt Ideal)) (img lab : Im) (n : Fin 8) (hA : area lab ≠ 0)
    (h82 : ∀ b : Fin 256, (V (Proc.devRef .tc main_v82) (ix2 n b) : EReal) = hist img lab b.val) (k : Fin 256) :
    (StableHlo.after segE V (Proc.devRef .tc main_v87) (ix2 n k) : EReal) = mass img lab k.val := by
  after_reads_at
  refine (scan_at _ _ _ _ (fun m => Ideal.div (hist img lab m) (area lab)) n (fun m => ?_) (start_zero _ _) k).trans (mass_eq img lab hA k.val)
  rw [← sum_hist img lab]
  exact share_at _ (hist img lab) n h82 _ _ _ _ m

/-- The cumulative mean, where the mask holds some pixel. -/
theorem mean_at (V : Valuation τ sig (Elt Ideal)) (img lab : Im) (n : Fin 8) (hA : area lab ≠ 0)
    (h82 : ∀ b : Fin 256, (V (Proc.devRef .tc main_v82) (ix2 n b) : EReal) = hist img lab b.val) (k : Fin 256) :
    (StableHlo.after segE V (Proc.devRef .tc main_v92) (ix2 n k) : EReal) = mean img lab k.val := by
  after_reads_at
  refine (scan_at _ _ _ _ (fun m => Ideal.div (hist img lab m) (area lab) * ((m : ℝ) : EReal)) n (fun m => ?_) (start_zero _ _) k).trans
    (mean_eq img lab hA k.val)
  rw [← sum_hist img lab]
  exact congrArg₂ (fun a b : EReal => a * b) (share_at _ (hist img lab) n h82 _ _ _ _ m) (ramp_at _ _ n m)

/-- The mean over all levels, where the mask holds some pixel. -/
theorem whole_at (V : Valuation τ sig (Elt Ideal)) (img lab : Im) (n : Fin 8) (hA : area lab ≠ 0)
    (h82 : ∀ b : Fin 256, (V (Proc.devRef .tc main_v82) (ix2 n b) : EReal) = hist img lab b.val) :
    (StableHlo.after segE V (Proc.devRef .tc main_v94) (ix1 n) : EReal) = mean img lab 255 := by
  after_reads_at
  pointwise
  refine (scan_at _ _ _ _ (fun m => Ideal.div (hist img lab m) (area lab) * ((m : ℝ) : EReal)) n (fun m => ?_) (start_zero _ _) 255).trans
    (mean_eq img lab hA 255)
  rw [← sum_hist img lab]
  exact congrArg₂ (fun a b : EReal => a * b) (share_at _ (hist img lab) n h82 _ _ _ _ m) (ramp_at _ _ n m)

end Own

end Cert.ReferenceIdeal

end
-- ==== Proof.RefScore.lean ====
module

public import proofs.«01_k».proof.Proof.RefOps
public import proofs.«01_k».proof.Proof.Spec
public import Idealize.ShloMosaic.Lib.StableHlo.ReadAt
public import Idealize.ShloMosaic.Lib.Pointwise

/-! The reference's scores of all pairs of levels, laid out as one row for each image. -/

@[expose] public section

set_option maxRecDepth 16384

noncomputable section

namespace Cert.ReferenceIdeal

open Idealize.ShloMosaic Idealize.SL.Sem Cert.Otsu

namespace Own

theorem and_flags (a b : Bool) : IntOp.andi (BitVec.ofBool a) (BitVec.ofBool b) = BitVec.ofBool (a && b) := by
  cases a <;> cases b <;> rfl

theorem select_ite {α : Type} (b : Bool) (x y : α) : Scalar.select (BitVec.ofBool b) x y = if b then x else y := by
  cases b <;> simp [Scalar.select]

open Classical in
/-- The classes' masses and means, and whether all three classes of a pair hold some mass. -/
theorem classes_at (V : Valuation τ sig (Elt Ideal)) (ch cm : ℕ → EReal) (n : Fin 8)
    (h87 : ∀ k : Fin 256, (V (Proc.devRef .tc main_v87) (ix2 n k) : EReal) = ch k.val)
    (h92 : ∀ k : Fin 256, (V (Proc.devRef .tc main_v92) (ix2 n k) : EReal) = cm k.val) (i j : Fin 254) :
    (StableHlo.after segF V (Proc.devRef .tc main_v96) (ix3 n i 0) : EReal) = ch i.val
      ∧ (StableHlo.after segF V (Proc.devRef .tc main_v100) (ix3 n i 0) : EReal) = cm i.val
      ∧ (StableHlo.after segF V (Proc.devRef .tc main_v102) (ix3 n 0 j) : EReal) = cm j.val
      ∧ (StableHlo.after segF V (Proc.devRef .tc main_v105) (ix3 n i j) : EReal) = ch j.val - ch i.val
      ∧ (StableHlo.after segF V (Proc.devRef .tc main_v107) (ix3 n 0 j) : EReal) = 1 - ch j.val
      ∧ (StableHlo.after segF V (Proc.devRef .tc main_v117) (ix3 n i j) : BitVec 1) = BitVec.ofBool (decide (admissible ch i.val j.val)) := by
  refine ⟨?_, ?_, ?_, ?_, ?_, ?_⟩
  · after_reads_at
    pointwise
    exact h87 _
  · after_reads_at
    pointwise
    exact h92 _
  · after_reads_at
    pointwise
    exact h92 _
  · after_reads_at
    pointwise
    rw [h87, h87]
  · after_reads_at
    pointwise
    rw [h87]
  · after_reads_at
    pointwise
    rw [h87, h87, and_flags, and_flags]
    refine congrArg BitVec.ofBool ?_
    unfold admissible
    rw [Bool.eq_iff_iff]
    simp [and_assoc]

/-- The score of every pair of levels, pair `(i, j)` at place `i·254 + j`. -/
theorem score_at (V : Valuation τ sig (Elt Ideal)) (ch cm : ℕ → EReal) (tm : EReal) (n : Fin 8)
    (h96 : ∀ i : Fin 254, (V (Proc.devRef .tc main_v96) (ix3 n i 0) : EReal) = ch i.val)
    (h100 : ∀ i : Fin 254, (V (Proc.devRef .tc main_v100) (ix3 n i 0) : EReal) = cm i.val)
    (h102 : ∀ j : Fin 254, (V (Proc.devRef .tc main_v102) (ix3 n 0 j) : EReal) = cm j.val)
    (h105 : ∀ i j : Fin 254, (V (Proc.devRef .tc main_v105) (ix3 n i j) : EReal) = ch j.val - ch i.val)
    (h107 : ∀ j : Fin 254, (V (Proc.devRef .tc main_v107) (ix3 n 0 j) : EReal) = 1 - ch j.val)
    (h117 : ∀ i j : Fin 254, ∀ d : Decidable (admissible ch i.val j.val),
      (V (Proc.devRef .tc main_v117) (ix3 n i j) : BitVec 1) = BitVec.ofBool (decide (admissible ch i.val j.val)))
    (h94 : (V (Proc.devRef .tc main_v94) (ix1 n) : EReal) = tm) (k : Fin 64516) :
    (StableHlo.after segG V (Proc.devRef .tc main_v153) (ix2 n k) : EReal) = score ch cm tm (k.val / 254) (k.val % 254) := by
  classical
  after_reads_at
  simp only [id]
  pointwise
  rw [h96, h100, h102, h105, h107, h94, h117 _ _ (Classical.dec _), select_ite]
  simp only [decide_eq_true_eq]
  unfold score between part
  congr

end Own

end Cert.ReferenceIdeal

end
-- ==== Proof.RefArgmax.lean ====
module

public import proofs.«01_k».proof.Proof.RefOps
public import proofs.«01_k».proof.Proof.Pick
public import Idealize.ShloMosaic.Lib.StableHlo.ReadAt
public import Idealize.ShloMosaic.Lib.Pointwise

/-! The reference's choice: the first place of the greatest score in an image's row names the picked pair. -/

@[expose] public section

set_option maxRecDepth 16384

noncomputable section

namespace Cert.ReferenceIdeal

open Idealize.ShloMosaic Idealize.SL.Sem Cert.Otsu

namespace Own

/-- The reducer keeps the pair with the greater value, and of two equal values the one with the smaller index. -/
theorem reducer_eq (a b : EReal × BitVec 32) :
    reducer_argmax_f32_i32 (F := Ideal) a b = if b.1 < a.1 ∨ (a.1 = b.1 ∧ a.2.toInt < b.2.toInt) then a else b := by
  unfold reducer_argmax_f32_i32
  simp only [Ideal.cmpf_def, Ideal.cmp, IntOp.cmpi]
  have e : a.2.slt b.2 = decide (a.2.toInt < b.2.toInt) := rfl
  rw [e]
  rcases lt_trichotomy a.1 b.1 with h | h | h
  · simp [h, h.not_gt, h.ne, IntOp.ori, IntOp.andi, Scalar.select]
  · by_cases hi : a.2.toInt < b.2.toInt
    · simp [h, hi, IntOp.ori, IntOp.andi, Scalar.select, Prod.ext_iff]
    · simp [h, hi, IntOp.ori, IntOp.andi, Scalar.select, Prod.ext_iff]
  · simp [h, h.not_gt, h.ne', IntOp.ori, IntOp.andi, Scalar.select]

/-- A left fold with the reducer ends at a member that no other beats. -/
theorem fold_best (l : List (EReal × BitVec 32)) (v : EReal × BitVec 32) :
    l.foldl (reducer_argmax_f32_i32 (F := Ideal)) v ∈ v :: l
      ∧ ∀ p ∈ v :: l, p.1 ≤ (l.foldl (reducer_argmax_f32_i32 (F := Ideal)) v).1
        ∧ (p.1 = (l.foldl (reducer_argmax_f32_i32 (F := Ideal)) v).1 →
          (l.foldl (reducer_argmax_f32_i32 (F := Ideal)) v).2.toInt ≤ p.2.toInt) := by
  induction l generalizing v with
  | nil => simp
  | cons a l ih =>
    rw [List.foldl_cons]
    obtain ⟨h1, h2⟩ := ih (reducer_argmax_f32_i32 (F := Ideal) v a)
    generalize l.foldl (reducer_argmax_f32_i32 (F := Ideal)) (reducer_argmax_f32_i32 (F := Ideal) v a) = r at h1 h2 ⊢
    rw [reducer_eq] at h1 h2
    have hb := h2 _ (List.mem_cons_self ..)
    split_ifs at h1 h2 hb with hc
    · refine ⟨?_, ?_⟩
      · simp only [List.mem_cons] at h1 ⊢; tauto
      · intro p hp
        rcases List.mem_cons.1 hp with rfl | hp
        · exact hb
        · rcases List.mem_cons.1 hp with rfl | hp
          · rcases hc with hc | ⟨hc, hd⟩
            · exact ⟨hc.le.trans hb.1, fun e => absurd (e ▸ hb.1) (not_le.2 (e ▸ hc))⟩
            · exact ⟨hc ▸ hb.1, fun e => (hb.2 (hc.trans e)).trans hd.le⟩
          · exact h2 p (List.mem_cons_of_mem _ hp)
    · push Not at hc
      refine ⟨?_, ?_⟩
      · simp only [List.mem_cons] at h1 ⊢; tauto
      · intro p hp
        rcases List.mem_cons.1 hp with rfl | hp
        · exact ⟨hc.1.trans hb.1, fun e => (hb.2 (le_antisymm hb.1 (e ▸ hc.1))).trans (hc.2 (le_antisymm hc.1 (e ▸ hb.1)))⟩
        · rcases List.mem_cons.1 hp with rfl | hp
          · exact hb
          · exact h2 p (List.mem_cons_of_mem _ hp)

/-- The index of the greatest score names the picked pair. -/
theorem arg_at (x : FVec Ideal S8x64516 .f32) (s : ℕ → ℕ → EReal) (n : Fin 8) (h : S8x64516.ReducesTo [1] S8) (hu : 0 < S_.numel)
    (hx : ∀ k : Fin 64516, (x (ix2 n k) : EReal) = s (k.val / 254) (k.val % 254)) :
    ∃ k : Fin 64516, IsPick s (k.val / 254) (k.val % 254)
      ∧ ((Host.argReduce (F := Ideal) reducer_argmax_f32_i32 x (iotaInDim S8x64516 32 1) (constant S_ FTy.f32 4286578688#32) (constantI S_ 32 0#32) h hu
        (ix1 n)).2 : BitVec 32) = BitVec.ofNat 32 k.val := by
  rw [Ideal.argReduce_eq_reduce2, Host.reduce2_eq_foldl_fiber]
  obtain ⟨h1, h2⟩ := fold_best (Host.argReduceFiber x (iotaInDim S8x64516 32 1) h (ix1 n))
    ((constant (F := Ideal) S_ FTy.f32 4286578688#32) (Shape.Idx.first hu), (constantI S_ 32 0#32) (Shape.Idx.first hu))
  generalize (Host.argReduceFiber x (iotaInDim S8x64516 32 1) h (ix1 n)).foldl (reducer_argmax_f32_i32 (F := Ideal)) _ = r at h1 h2 ⊢
  have hdrop : ∀ i : S8x64516.Idx, h.drop i = ix1 n ↔ i 0 = n := by
    intro i
    have e : h.drop i = ix1 (i 0) := by
      funext a
      match a with
      | ⟨0, _⟩ => rfl
    rw [e]
    exact ⟨fun q => congrFun q 0, fun q => congrArg ix1 q⟩
  have hmem : ∀ k : Fin 64516, (s (k.val / 254) (k.val % 254), BitVec.ofNat 32 k.val) ∈ Host.argReduceFiber x (iotaInDim S8x64516 32 1) h (ix1 n) := by
    intro k
    refine List.mem_map.2 ⟨S8x64516.rowMajor (ix2 n k), List.mem_filter.2 ⟨List.mem_finRange _, ?_⟩, ?_⟩
    · rw [Equiv.symm_apply_apply]; exact decide_eq_true ((hdrop _).2 rfl)
    · rw [Equiv.symm_apply_apply, hx]; rfl
  have hfrom : ∀ p ∈ Host.argReduceFiber x (iotaInDim S8x64516 32 1) h (ix1 n), ∃ k : Fin 64516,
      p = (s (k.val / 254) (k.val % 254), BitVec.ofNat 32 k.val) := by
    intro p hp
    obtain ⟨m, hm, rfl⟩ := List.mem_map.1 hp
    have hd := (hdrop _).1 (of_decide_eq_true (List.mem_filter.1 hm).2)
    generalize S8x64516.rowMajor.symm m = i at hd ⊢
    have hi : i = ix2 n (i 1) := by rw [eq_ix2 i, hd]; rfl
    rw [hi]
    exact ⟨i 1, Prod.ext (hx _) rfl⟩
  have hint : ∀ k : Fin 64516, (BitVec.ofNat 32 k.val).toInt = k.val := fun k => by
    have := k.isLt
    rw [BitVec.toInt_eq_toNat_cond, BitVec.toNat_ofNat]; split_ifs <;> omega
  have hk : ∃ k : Fin 64516, r.1 = s (k.val / 254) (k.val % 254) ∧ r.2 = BitVec.ofNat 32 k.val := by
    rcases List.mem_cons.1 h1 with e | e
    · refine ⟨0, ?_, by rw [e]; rfl⟩
      have hr : r.1 = (⊥ : EReal) := by rw [e]; exact bot_eq
      have := (h2 _ (List.mem_cons_of_mem _ (hmem 0))).1
      rw [hr] at this ⊢
      exact (le_bot_iff.1 this).symm
    · obtain ⟨k, e⟩ := hfrom _ e
      exact ⟨k, by rw [e], by rw [e]⟩
  obtain ⟨k, e1, e2⟩ := hk
  have hk := k.isLt
  refine ⟨k, ⟨by omega, by omega, fun a b ha hb => ?_, fun a b ha hb e => ?_⟩, e2⟩
  · have := (h2 _ (List.mem_cons_of_mem _ (hmem ⟨a * 254 + b, by omega⟩))).1
    rw [e1] at this
    simpa only [show (a * 254 + b) / 254 = a by omega, show (a * 254 + b) % 254 = b by omega] using this
  · have := (h2 _ (List.mem_cons_of_mem _ (hmem ⟨a * 254 + b, by omega⟩))).2
    rw [e1, e2, hint, hint] at this
    simp only [show (a * 254 + b) / 254 = a by omega, show (a * 254 + b) % 254 = b by omega] at this
    have := this e
    omega

/-- The picked place of each image. -/
theorem pick_at (V : Valuation τ sig (Elt Ideal)) (s : ℕ → ℕ → EReal) (n : Fin 8)
    (h153 : ∀ k : Fin 64516, (V (Proc.devRef .tc main_v153) (ix2 n k) : EReal) = s (k.val / 254) (k.val % 254)) :
    ∃ k : Fin 64516, IsPick s (k.val / 254) (k.val % 254)
      ∧ (StableHlo.after segH V (Proc.devRef .tc main_v154) (ix1 n) : BitVec 32) = BitVec.ofNat 32 k.val := by
  obtain ⟨k, hk, e⟩ := arg_at _ s n (by decide) (by decide) h153
  refine ⟨k, hk, ?_⟩
  after_reads_at
  exact e

end Own

end Cert.ReferenceIdeal

end
-- ==== Proof.RefLoss.lean ====
module

public import proofs.«01_k».proof.Proof.RefOps
public import proofs.«01_k».proof.Proof.Loss
public import proofs.«01_k».proof.Proof.Count
public import proofs.«01_k».proof.Proof.RefScore
public import Idealize.ShloMosaic.Lib.StableHlo.ReadAt
public import Idealize.ShloMosaic.Lib.Pointwise

/-! The reference's two thresholds, the grades, and the mean over the images. -/

@[expose] public section

set_option maxRecDepth 16384

noncomputable section

namespace Cert.ReferenceIdeal

open Idealize.ShloMosaic Idealize.SL.Sem Cert.Otsu

namespace Own

theorem word_toInt (k : ℕ) (h : k < 64516) : (BitVec.ofNat 32 k).toInt = k := by
  rw [BitVec.toInt_eq_toNat_cond, BitVec.toNat_ofNat]; split_ifs <;> omega

theorem word_msb (k : ℕ) (h : k < 64516) : (BitVec.ofNat 32 k).msb = false := by
  rw [BitVec.msb_eq_false_iff_two_mul_lt, BitVec.toNat_ofNat]; omega

/-- The row of a place of the score row, as a word. -/
theorem row_word (k : ℕ) (h : k < 64516) : IntOp.divsi ArithUnit.host (BitVec.ofNat 32 k) 254#32 = BitVec.ofNat 32 (k / 254) := by
  have hc : ¬ IntOp.SDivCorner (BitVec.ofNat 32 k) 254#32 := by
    unfold IntOp.SDivCorner
    simp
  unfold IntOp.divsi
  rw [if_neg hc, BitVec.sdiv_eq, word_msb k h, show (254#32).msb = false by decide]
  apply BitVec.eq_of_toNat_eq
  show (BitVec.ofNat 32 k / 254#32).toNat = _
  rw [BitVec.toNat_udiv, BitVec.toNat_ofNat, BitVec.toNat_ofNat, BitVec.toNat_ofNat, Nat.mod_eq_of_lt (a := k) (by omega),
    Nat.mod_eq_of_lt (a := 254) (by omega), Nat.mod_eq_of_lt (a := k / 254) (by omega)]

/-- The column of a place of the score row, as a word. -/
theorem col_word (k : ℕ) (h : k < 64516) : IntOp.remsi ArithUnit.host (BitVec.ofNat 32 k) 254#32 = BitVec.ofNat 32 (k % 254) := by
  have hc : ¬ IntOp.SDivCorner (BitVec.ofNat 32 k) 254#32 := by
    unfold IntOp.SDivCorner
    simp
  unfold IntOp.remsi
  rw [if_neg hc, BitVec.srem_eq, word_msb k h, show (254#32).msb = false by decide]
  apply BitVec.eq_of_toNat_eq
  show (BitVec.ofNat 32 k % 254#32).toNat = _
  rw [BitVec.toNat_umod, BitVec.toNat_ofNat, BitVec.toNat_ofNat, BitVec.toNat_ofNat, Nat.mod_eq_of_lt (a := k) (by omega),
    Nat.mod_eq_of_lt (a := 254) (by omega), Nat.mod_eq_of_lt (a := k % 254) (by omega)]

theorem next_word (k : ℕ) : IntOp.addi 1#32 (BitVec.ofNat 32 k) = BitVec.ofNat 32 (k + 1) := by
  unfold IntOp.addi; rw [BitVec.ofNat_add, BitVec.add_comm]

/-- The two thresholds of an image. -/
theorem thresholds_at (V : Valuation τ sig (Elt Ideal)) (n : Fin 8) (k : Fin 64516)
    (h154 : (V (Proc.devRef .tc main_v154) (ix1 n) : BitVec 32) = BitVec.ofNat 32 k.val) :
    (StableHlo.after segI V (Proc.devRef .tc main_v165) (ix1 n) : EReal) = (((k.val / 254 + 1 : ℕ) / 255 : ℝ) : EReal)
      ∧ (StableHlo.after segI V (Proc.devRef .tc main_v168) (ix1 n) : EReal) = (((k.val % 254 + 1 : ℕ) / 255 : ℝ) : EReal) := by
  have hk := k.isLt
  constructor
  · after_reads_at
    pointwise
    rw [h154, row_word _ hk, next_word]
    refine (congrArg₂ Ideal.div (sitofp_val _ (by omega)) top255_eq).trans (div_real _ _ (by norm_num))
  · after_reads_at
    pointwise
    rw [h154, col_word _ hk, next_word]
    refine (congrArg₂ Ideal.div (sitofp_val _ (by omega)) top255_eq).trans (div_real _ _ (by norm_num))

/-- The reference's grade of a value against two thresholds. -/
def choice (t1 t2 x : EReal) : EReal :=
  if t2 ≤ x then 1 else Scalar.select (IntOp.andi (BitVec.ofBool (decide (t1 ≤ x))) (BitVec.ofBool (decide (x < t2))))
    (Ideal.ofBits FTy.f32 1056964608#32) 0

/-- The nested choices are the grade. -/
theorem choice_eq (x : EReal) (i j : ℕ) :
    choice (((i + 1 : ℕ) / 255 : ℝ) : EReal) (((j + 1 : ℕ) / 255 : ℝ) : EReal) x = grade x i j := by
  unfold choice grade
  rw [half_eq, and_flags, select_ite]
  generalize (((i + 1 : ℕ) / 255 : ℝ) : EReal) = t1
  generalize (((j + 1 : ℕ) / 255 : ℝ) : EReal) = t2
  by_cases h1 : t2 ≤ x
  · rw [if_pos h1, if_pos h1]
  · rw [if_neg h1, if_neg h1]
    by_cases h2 : t1 ≤ x
    · rw [if_pos h2, if_pos]; simp [h2, lt_of_not_ge h1]
    · rw [if_neg h2, if_neg]; simp [h2]

/-- One pixel's squared difference. -/
def gap (t1 t2 x p : EReal) : EReal := (choice t1 t2 x - p) * (choice t1 t2 x - p)

/-- The reference's result. -/
theorem result_at (V : Valuation τ sig (Elt Ideal)) :
    (StableHlo.after segJ V (Proc.devRef .tc main_v195) ix0 : EReal)
      = meanLoss (fun n => ∑ r : Fin 512, ∑ c : Fin 512, gap (V (Proc.devRef .tc main_v165) (ix1 n)) (V (Proc.devRef .tc main_v168) (ix1 n))
          (V (Proc.devRef .tc main_v55) (ix4 n 0 r c)) (V (Proc.devRef .tc main_v56) (ix4 n 0 r c)))
         (fun n => ∑ r : Fin 512, ∑ c : Fin 512, V (Proc.devRef .tc main_v54) (ix4 n 0 r c)) := by
  after_reads_at
  simp only [id]
  pointwise
  simp only [flag_val', decide_eq_true_eq, Fin.sum_univ_one]
  unfold meanLoss gap choice
  dsimp only

end Own

end Cert.ReferenceIdeal

end
-- ==== Proof.RefValue.lean ====
module

public import proofs.«01_k».proof.Proof.RefRun
public import proofs.«01_k».proof.Proof.RefMask
public import proofs.«01_k».proof.Proof.RefHist
public import proofs.«01_k».proof.Proof.RefScan
public import proofs.«01_k».proof.Proof.RefScore
public import proofs.«01_k».proof.Proof.RefArgmax
public import proofs.«01_k».proof.Proof.RefLoss

/-! The reference's result as the mean loss of what each image's pick gives. -/

@[expose] public section

set_option maxRecDepth 16384

noncomputable section

namespace Cert.ReferenceIdeal

open Idealize.ShloMosaic Idealize.SL.Sem Cert.Otsu

namespace Own

theorem keep_segC (V : Valuation τ sig (Elt Ideal)) :
    StableHlo.after segC V (Proc.devRef .tc main_v54) = V (Proc.devRef .tc main_v54) ∧ StableHlo.after segC V (Proc.devRef .tc main_v55) = V (Proc.devRef .tc main_v55)
      ∧ StableHlo.after segC V (Proc.devRef .tc main_v56) = V (Proc.devRef .tc main_v56) := by refine ⟨?_, ?_, ?_⟩ <;> after_reads_simp

theorem keep_segD (V : Valuation τ sig (Elt Ideal)) :
    StableHlo.after segD V (Proc.devRef .tc main_v54) = V (Proc.devRef .tc main_v54) ∧ StableHlo.after segD V (Proc.devRef .tc main_v55) = V (Proc.devRef .tc main_v55)
      ∧ StableHlo.after segD V (Proc.devRef .tc main_v56) = V (Proc.devRef .tc main_v56) := by refine ⟨?_, ?_, ?_⟩ <;> after_reads_simp

theorem keep_segE (V : Valuation τ sig (Elt Ideal)) :
    StableHlo.after segE V (Proc.devRef .tc main_v54) = V (Proc.devRef .tc main_v54) ∧ StableHlo.after segE V (Proc.devRef .tc main_v55) = V (Proc.devRef .tc main_v55)
      ∧ StableHlo.after segE V (Proc.devRef .tc main_v56) = V (Proc.devRef .tc main_v56) := by refine ⟨?_, ?_, ?_⟩ <;> after_reads_simp

theorem keep_segF (V : Valuation τ sig (Elt Ideal)) :
    StableHlo.after segF V (Proc.devRef .tc main_v54) = V (Proc.devRef .tc main_v54) ∧ StableHlo.after segF V (Proc.devRef .tc main_v55) = V (Proc.devRef .tc main_v55)
      ∧ StableHlo.after segF V (Proc.devRef .tc main_v56) = V (Proc.devRef .tc main_v56) := by refine ⟨?_, ?_, ?_⟩ <;> after_reads_simp

theorem keep_segG (V : Valuation τ sig (Elt Ideal)) :
    StableHlo.after segG V (Proc.devRef .tc main_v54) = V (Proc.devRef .tc main_v54) ∧ StableHlo.after segG V (Proc.devRef .tc main_v55) = V (Proc.devRef .tc main_v55)
      ∧ StableHlo.after segG V (Proc.devRef .tc main_v56) = V (Proc.devRef .tc main_v56) := by refine ⟨?_, ?_, ?_⟩ <;> after_reads_simp

theorem keep_segH (V : Valuation τ sig (Elt Ideal)) :
    StableHlo.after segH V (Proc.devRef .tc main_v54) = V (Proc.devRef .tc main_v54) ∧ StableHlo.after segH V (Proc.devRef .tc main_v55) = V (Proc.devRef .tc main_v55)
      ∧ StableHlo.after segH V (Proc.devRef .tc main_v56) = V (Proc.devRef .tc main_v56) := by refine ⟨?_, ?_, ?_⟩ <;> after_reads_simp

theorem keep_segI (V : Valuation τ sig (Elt Ideal)) :
    StableHlo.after segI V (Proc.devRef .tc main_v54) = V (Proc.devRef .tc main_v54) ∧ StableHlo.after segI V (Proc.devRef .tc main_v55) = V (Proc.devRef .tc main_v55)
      ∧ StableHlo.after segI V (Proc.devRef .tc main_v56) = V (Proc.devRef .tc main_v56) := by refine ⟨?_, ?_, ?_⟩ <;> after_reads_simp

theorem keep_whole (V : Valuation τ sig (Elt Ideal)) :
    StableHlo.after segF V (Proc.devRef .tc main_v94) = V (Proc.devRef .tc main_v94) := by after_reads_simp

/-- The segments between the mask and the loss leave the mask, the masked images and the masked predictions as they were. -/
theorem keep_all (V : Valuation τ sig (Elt Ideal)) :
    let W := StableHlo.after segI (StableHlo.after segH (StableHlo.after segG (StableHlo.after segF (StableHlo.after segE
      (StableHlo.after segD (StableHlo.after segC V))))))
    W (Proc.devRef .tc main_v54) = V (Proc.devRef .tc main_v54) ∧ W (Proc.devRef .tc main_v55) = V (Proc.devRef .tc main_v55)
      ∧ W (Proc.devRef .tc main_v56) = V (Proc.devRef .tc main_v56) :=
  ⟨(keep_segI _).1.trans ((keep_segH _).1.trans ((keep_segG _).1.trans ((keep_segF _).1.trans ((keep_segE _).1.trans ((keep_segD _).1.trans ((keep_segC _).1)))))),
    (keep_segI _).2.1.trans ((keep_segH _).2.1.trans ((keep_segG _).2.1.trans ((keep_segF _).2.1.trans ((keep_segE _).2.1.trans ((keep_segD _).2.1.trans ((keep_segC _).2.1)))))),
    (keep_segI _).2.2.trans ((keep_segH _).2.2.trans ((keep_segG _).2.2.trans ((keep_segF _).2.2.trans ((keep_segE _).2.2.trans ((keep_segD _).2.2.trans ((keep_segC _).2.2))))))⟩

/-- From the mask on: the thresholds of an image whose mask holds some pixel are those of the picked pair. -/
theorem picked (V : Valuation τ sig (Elt Ideal)) (I L : Fin 8 → Im)
    (h54 : ∀ n r c, (V (Proc.devRef .tc main_v54) (ix4 n 0 r c) : EReal) = on (L n) r c)
    (h55 : ∀ n r c, (V (Proc.devRef .tc main_v55) (ix4 n 0 r c) : EReal) = I n r c * on (L n) r c) (n : Fin 8) (hA : area (L n) ≠ 0) :
    ∃ i j, IsPick (score (mass (I n) (L n)) (mean (I n) (L n)) (mean (I n) (L n) 255)) i j
      ∧ (StableHlo.after segI (StableHlo.after segH (StableHlo.after segG (StableHlo.after segF (StableHlo.after segE
          (StableHlo.after segD (StableHlo.after segC V)))))) (Proc.devRef .tc main_v165) (ix1 n) : EReal) = (((i + 1 : ℕ) / 255 : ℝ) : EReal)
      ∧ (StableHlo.after segI (StableHlo.after segH (StableHlo.after segG (StableHlo.after segF (StableHlo.after segE
          (StableHlo.after segD (StableHlo.after segC V)))))) (Proc.devRef .tc main_v168) (ix1 n) : EReal) = (((j + 1 : ℕ) / 255 : ℝ) : EReal) := by
  generalize hC : StableHlo.after segC V = VC
  have h82 := hist_at VC I L (fun n b => hC ▸ start_at V n b) (fun n r c => hC ▸ image_at V n r c)
    (fun n r c => hC ▸ level_at V n r c _ (h55 n r c)) (fun n r c => hC ▸ (weight_at V n r c).trans (h54 n r c)) n
  generalize StableHlo.after segD VC = VD at h82 ⊢
  have h87 := mass_at VD (I n) (L n) n hA h82
  have h92 := mean_at VD (I n) (L n) n hA h82
  have h94 := whole_at VD (I n) (L n) n hA h82
  generalize StableHlo.after segE VD = VE at h87 h92 h94 ⊢
  have hF := classes_at VE _ _ n h87 h92
  have h94' : (StableHlo.after segF VE (Proc.devRef .tc main_v94) (ix1 n) : EReal) = mean (I n) (L n) 255 := by rw [keep_whole]; exact h94
  generalize StableHlo.after segF VE = VF at hF h94' ⊢
  have h153 := score_at VF (mass (I n) (L n)) (mean (I n) (L n)) _ n (fun i => (hF i 0).1) (fun i => (hF i 0).2.1) (fun j => (hF 0 j).2.2.1)
    (fun i j => (hF i j).2.2.2.1) (fun j => (hF 0 j).2.2.2.2.1)
    (fun i j d => ((hF i j).2.2.2.2.2).trans (by congr)) h94'
  generalize StableHlo.after segG VF = VG at h153 ⊢
  obtain ⟨k, hk, h154⟩ := pick_at VG _ n h153
  generalize StableHlo.after segH VG = VH at h154 ⊢
  exact ⟨_, _, hk, thresholds_at VH n k h154⟩

/-- The reference's result: the mean loss of per-image sums, each the squared differences at the picked pair where the mask holds some pixel. -/
theorem value (V : Valuation τ sig (Elt Ideal)) (P I L : Fin 8 → Im)
    (hP : ∀ n r c, (V (Proc.devRef .tc main_arg0) (ix4 n 0 r c) : EReal) = P n r c)
    (hL : ∀ n r c, (V (Proc.devRef .tc main_arg1) (ix4 n 0 r c) : EReal) = L n r c)
    (hI : ∀ n r c, (V (Proc.devRef .tc main_arg2) (ix4 n 0 r c) : EReal) = I n r c) (hnn : ∀ n r c, 0 ≤ L n r c) :
    ∃ sq : Fin 8 → EReal, (StableHlo.after ops V (Proc.devRef .tc main_v195) ix0 : EReal) = meanLoss sq (fun n => area (L n))
      ∧ ∀ n, area (L n) ≠ 0 → ∃ i j, IsPick (score (mass (I n) (L n)) (mean (I n) (L n)) (mean (I n) (L n) 255)) i j
        ∧ sq n = sqDiff (P n) (I n) (L n) i j := by
  rw [after_ops]
  have h0 := pad_at V L hL
  have hA := arg_segA V
  have hP' : ∀ n r c, (StableHlo.after segA V (Proc.devRef .tc main_arg0) (ix4 n 0 r c) : EReal) = P n r c := fun n r c => by rw [hA.1]; exact hP n r c
  have hI' : ∀ n r c, (StableHlo.after segA V (Proc.devRef .tc main_arg2) (ix4 n 0 r c) : EReal) = I n r c := fun n r c => by rw [hA.2.2]; exact hI n r c
  generalize StableHlo.after segA V = VA at h0 hP' hI' ⊢
  have h54 := mask_at VA L hnn h0
  have h556 := fun n r c => masked_at VA n r c _ _ _ (h54 n r c) (hI' n r c) (hP' n r c)
  generalize StableHlo.after segB VA = VB at h54 h556 ⊢
  have hpick := picked VB I L h54 (fun n r c => (h556 n r c).1)
  obtain ⟨k54, k55, k56⟩ := keep_all VB
  generalize StableHlo.after segI (StableHlo.after segH (StableHlo.after segG (StableHlo.after segF (StableHlo.after segE
      (StableHlo.after segD (StableHlo.after segC VB)))))) = VI at hpick k54 k55 k56 ⊢
  refine ⟨_, (result_at VI).trans (congrArg (meanLoss _) (funext fun n => ?_)), fun n hn => ?_⟩
  · rw [k54]
    exact Finset.sum_congr rfl fun r _ => Finset.sum_congr rfl fun c _ => h54 n r c
  · obtain ⟨i, j, hij, e1, e2⟩ := hpick n hn
    refine ⟨i, j, hij, Finset.sum_congr rfl fun r _ => Finset.sum_congr rfl fun c _ => ?_⟩
    rw [e1, e2, k55, k56, (h556 n r c).1, (h556 n r c).2]
    unfold gap
    rw [choice_eq]

end Own

end Cert.ReferenceIdeal

end
-- ==== Proof.Labels.lean ====
module

public import proofs.«01_k».proof.Pre_labels_nonneg
public import Idealize.ShloMosaic.PureOps.Ideal
public import Idealize.ShloMosaic.Lib.Pointwise

/-! What the precondition says: no label is negative. -/

@[expose] public section

set_option maxRecDepth 16384

noncomputable section

namespace Cert.Pre_labels_nonneg

open Idealize.ShloMosaic

namespace Own

/-- A conjunction over a list that comes out one has every member one. -/
theorem fold_and {ι : Type} (f : ι → BitVec 1) (l : List ι) (v : BitVec 1) (h : l.foldl (fun r n => IntOp.andi r (f n)) v = 1#1) :
    v = 1#1 ∧ ∀ n ∈ l, f n = 1#1 := by
  induction l generalizing v with
  | nil => exact ⟨h, by simp⟩
  | cons a l ih =>
    obtain ⟨h1, h2⟩ := ih _ h
    have key : ∀ v w : BitVec 1, IntOp.andi v w = 1#1 → v = 1#1 ∧ w = 1#1 := by decide
    have h3 := key v (f a) h1
    refine ⟨h3.1, fun n hn => ?_⟩
    rcases List.mem_cons.1 hn with rfl | hn
    · exact h3.2
    · exact h2 n hn

/-- A conjunction over every axis that comes out one has every element one. -/
theorem reduce_and {s t u : Shape} {axes : List (Fin s.rank)} (x : IVec s 1) (v : IVec u 1) (h : s.ReducesTo axes t) (hu : 0 < u.numel) (j : t.Idx)
    (hj : ∀ i, h.drop i = j) (e : Host.reduce IntOp.andi x v h hu j = 1#1) (i : s.Idx) : x i = 1#1 := by
  have := (fold_and (fun n => x (s.rowMajor.symm n)) _ _ e).2 (s.rowMajor i)
    (List.mem_filter.2 ⟨List.mem_finRange _, decide_eq_true (hj _)⟩)
  rwa [Equiv.symm_apply_apply] at this

variable [Facts]

/-- Under the precondition no label is negative. -/
theorem labels_at (a0 a1 a2 : FVec Ideal S8x1x512x512 .f32) (h : fn (F := Ideal) a0 a1 a2 = fun _ => 1#1) (i : S8x1x512x512.Idx) :
    (0 : EReal) ≤ a1 i := by
  have e := reduce_and _ _ _ _ ix0 (fun i => funext fun a => a.elim0) (congrFun h ix0) i
  have z : Ideal.ofBits .f32 0#32 = (0 : EReal) := by simp [Ideal.ofBits, Ideal.ieee]
  have e' : BitVec.ofBool (decide (Ideal.ofBits .f32 0#32 ≤ (a1 i : EReal))) = 1#1 := e
  rw [z] at e'
  by_contra hc
  simp [hc] at e'

end Own

end Cert.Pre_labels_nonneg

end
-- ==== Proof.Equation.lean ====
module

public import proofs.«01_k».proof.Defs
public import proofs.«01_k».proof.Proof.KRun
public import proofs.«01_k».proof.Proof.RefValue
public import proofs.«01_k».proof.Proof.Labels
public import proofs.«01_k».proof.Proof.Gen.Pre_labels_nonneg
public import Idealize.ShloMosaic.Lib.Claim

/-! The kernel and the reference end with the same loss. -/

@[expose] public section

set_option maxRecDepth 16384

noncomputable section

namespace Cert.Equation

open Idealize.ShloMosaic Idealize.SL.Sem Cert.Otsu

open Cert.KernelIdeal.Own (image plane lossAt areaAt stepOf)

/-- One image: the kernel's sum of squared differences is that of any pair the reference picks. -/
theorem image_loss (m : (ℓ : Loc KernelIdeal.nD KernelIdeal.τ KernelIdeal.sig) → Buf (Elt Ideal) ℓ) (c : Dev KernelIdeal.nD) (n : Fin 8)
    (P I L : Im) (hP : image (m ((c.tc : Thread KernelIdeal.nD KernelIdeal.τ).loc KernelIdeal.main_arg0)) n = P)
    (hL : image (m ((c.tc : Thread KernelIdeal.nD KernelIdeal.τ).loc KernelIdeal.main_arg1)) n = L)
    (hI : image (m ((c.tc : Thread KernelIdeal.nD KernelIdeal.τ).loc KernelIdeal.main_arg2)) n = I) :
    areaAt m c n 0 = area L ∧ (area L ≠ 0 → ∀ i j, IsPick (score (mass I L) (mean I L) (mean I L 255)) i j → lossAt m c n 0 = sqDiff P I L i j) := by
  have b0 := (KernelIdeal.Own.block0 m c n).trans hP
  have b1 := (KernelIdeal.Own.block1 m c n).trans hL
  have b2 := (KernelIdeal.Own.block2 m c n).trans hI
  constructor
  · unfold areaAt
    rw [KernelIdeal.Own.area_block, b1]
  · intro hA i j hij
    obtain ⟨i', j', h1, h2⟩ := KernelIdeal.Own.loss_block (KernelIdeal.Gen.iblk m c 0 (stepOf n)) (KernelIdeal.Gen.iblk m c 1 (stepOf n))
      (KernelIdeal.Gen.iblk m c 2 (stepOf n)) (by rw [b1]; exact hA)
    rw [b1, b2] at h1
    obtain ⟨rfl, rfl⟩ := h1.unique hij
    unfold lossAt
    rw [h2 0, b0, b1, b2]

/-- The kernel's loss of an initial memory. -/
def kernelLoss (m : (ℓ : Loc KernelIdeal.nD KernelIdeal.τ KernelIdeal.sig) → Buf (Elt Ideal) ℓ) (c : Dev KernelIdeal.nD) : EReal :=
  meanLoss (fun n => lossAt m c n 0) (fun n => areaAt m c n 0)

/-- From the same arguments, none of the labels negative, the reference's operations leave the kernel's loss. -/
theorem same_loss (m : (ℓ : Loc KernelIdeal.nD KernelIdeal.τ KernelIdeal.sig) → Buf (Elt Ideal) ℓ) (c : Dev KernelIdeal.nD)
    (V : Valuation ReferenceIdeal.τ ReferenceIdeal.sig (Elt Ideal))
    (h0 : V (Proc.devRef .tc ReferenceIdeal.main_arg0) = m ((c.tc : Thread KernelIdeal.nD KernelIdeal.τ).loc KernelIdeal.main_arg0))
    (h1 : V (Proc.devRef .tc ReferenceIdeal.main_arg1) = m ((c.tc : Thread KernelIdeal.nD KernelIdeal.τ).loc KernelIdeal.main_arg1))
    (h2 : V (Proc.devRef .tc ReferenceIdeal.main_arg2) = m ((c.tc : Thread KernelIdeal.nD KernelIdeal.τ).loc KernelIdeal.main_arg2))
    (hnn : ∀ n r s, 0 ≤ image (m ((c.tc : Thread KernelIdeal.nD KernelIdeal.τ).loc KernelIdeal.main_arg1)) n r s) :
    (StableHlo.after ReferenceIdeal.Own.ops V (Proc.devRef .tc ReferenceIdeal.main_v195) ix0 : EReal) = kernelLoss m c := by
  obtain ⟨sq, e, hsq⟩ := ReferenceIdeal.Own.value V (image (m ((c.tc : Thread KernelIdeal.nD KernelIdeal.τ).loc KernelIdeal.main_arg0)))
    (image (m ((c.tc : Thread KernelIdeal.nD KernelIdeal.τ).loc KernelIdeal.main_arg2)))
    (image (m ((c.tc : Thread KernelIdeal.nD KernelIdeal.τ).loc KernelIdeal.main_arg1)))
    (fun n r s => congrFun h0 (ix4 n 0 r s)) (fun n r s => congrFun h1 (ix4 n 0 r s)) (fun n r s => congrFun h2 (ix4 n 0 r s)) hnn
  rw [e]
  unfold kernelLoss
  have ha : (fun n => areaAt m c n 0) = fun n => area (image (m ((c.tc : Thread KernelIdeal.nD KernelIdeal.τ).loc KernelIdeal.main_arg1)) n) :=
    funext fun n => (image_loss m c n _ _ _ rfl rfl rfl).1
  rw [ha]
  refine meanLoss_congr _ _ _ fun n hn => ?_
  obtain ⟨i, j, hij, hs⟩ := hsq n hn
  rw [hs, (image_loss m c n _ _ _ rfl rfl rfl).2 hn i j hij]

/-- The algebraic claim. -/
theorem algebraic : @Cert.algebraic_KernelIdeal_ReferenceIdeal_pre_labels_nonneg Cert.KernelIdeal.Gen.facts Cert.ReferenceIdeal.Gen.facts
    Cert.Pre_labels_nonneg.Gen.facts := by
  intro m g m' g' hpre hagree
  refine ⟨fun c => (fun _ => kernelLoss m c), ?_, ?_⟩
  · refine θ_run_mono (KernelIdeal.Own.loss_run m g) fun r h c => ⟨?_, (h c).2⟩
    funext ix
    rw [show ix = ix0 from funext fun d => d.elim0]
    exact (h c).1
  · refine θ_run_mono (ReferenceIdeal.Own.run m' g') fun r h c => ⟨?_, (h.1 c).2⟩
    rw [(h.1 c).1]
    funext ix
    rw [show ix = ix0 from funext fun d => d.elim0]
    exact same_loss m c _ (hagree c).1 (hagree c).2.1 (hagree c).2.2
      (fun n r s => Cert.Pre_labels_nonneg.Own.labels_at _ _ _ (hpre c) (ix4 n 0 r s))

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_labels_nonneg
public import proofs.«01_k».proof.Proof.RefRun
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference runs, its arguments end unchanged and every semaphore reads zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  θ_run_mono (Cert.ReferenceIdeal.Own.run m g) fun _ h => ⟨fun c => (h.1 c).2, h.2⟩

/-- Everything claimed: the three frames (the idealized ones also under the precondition), that the ideal pass keeps the kernel, and that the
    idealized kernel and the idealized reference end with the same loss when no label is negative. -/
theorem claim : Cert.Claim := ⟨Cert.Kernel.Gen.facts, Cert.KernelIdeal.Gen.facts, Cert.ReferenceIdeal.Gen.facts, Cert.Pre_labels_nonneg.Gen.facts,
  fun m g _ => Cert.Kernel.Gen.frame m g, fun m g _ => Cert.KernelIdeal.Gen.frame m g, fun m g _ => Cert.KernelIdeal.Gen.frame m g,
  fun m g _ => reference_frame m g, fun m g _ => reference_frame m g, trivial, Cert.Equation.algebraic⟩

end Cert.Proof

end
